-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 256]⟩ ⟨2, ![512, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S128x256 : Shape := ⟨2, ![128, 256]⟩
abbrev S2x4x512x256 : Shape := ⟨4, ![2, 4, 512, 256]⟩
abbrev S4x128x256 : Shape := ⟨3, ![4, 128, 256]⟩
abbrev S2x4x3 : Shape := ⟨3, ![2, 4, 3]⟩
abbrev S2x4x4 : Shape := ⟨3, ![2, 4, 4]⟩
abbrev S4 : Shape := ⟨1, ![4]⟩
abbrev S_ : Shape := ⟨0, ![]⟩
abbrev S128x512 : Shape := ⟨2, ![128, 512]⟩
abbrev S1x1x128x256 : Shape := ⟨4, ![1, 1, 128, 256]⟩
abbrev S1x1x1 : Shape := ⟨3, ![1, 1, 1]⟩
abbrev S1x128x256 : Shape := ⟨3, ![1, 128, 256]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S128x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S128x256, .f32⟩
  | .local _ .vmem, ⟨8, _⟩ => ⟨S2x4x512x256, .bf16⟩
  | .local _ .vmem, ⟨9, _⟩ => ⟨S4x128x256, .bf16⟩
  | .local _ .vmem, ⟨10, _⟩ => ⟨S4x128x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 4 → Nat :=
  let c0_35 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : Index := Scalar.indexCast v2
  let c0_36 : Index := 0#32
  let c0_37 : Index := 0#32
  ![0, v54.toNat, 0, 0]
def k0_off2 (d0 : Dev nD) : Fin 3 → Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_48 : BitVec 32 := 0#32
  ![0, v2.toNat, 0]
def k0_off3 (d0 : Dev nD) : Fin 4 → Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_54 : BitVec 32 := 0#32
  let c0_i32_55 : BitVec 32 := 0#32
  ![0, v2.toNat, 0, 0]
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_38 : BitVec 32 := 2#32
  let v58 : BitVec 32 := Scalar.addi v2 c2_i32_38
  let c4_i32_39 : BitVec 32 := 4#32
  let c0_i32_40 : BitVec 32 := 0#32
  let v59 : BitVec 1 := Scalar.cmpi .eq c4_i32_39 c0_i32_40
  let c1_i32_41 : BitVec 32 := 1#32
  let v60 : BitVec 32 := Scalar.select v59 c1_i32_41 c4_i32_39
  let v61 : BitVec 32 := Scalar.remsi v58 v60
  let c0_i32_43 : BitVec 32 := 0#32
  let v63 : BitVec 1 := Scalar.cmpi .slt v61 c0_i32_43
  let c0_i32_44 : BitVec 32 := 0#32
  let v64 : BitVec 1 := Scalar.cmpi .slt v60 c0_i32_44
  let v65 : BitVec 1 := Scalar.xori v63 v64
  let c0_i32_42 : BitVec 32 := 0#32
  let v62 : BitVec 1 := Scalar.cmpi .ne v61 c0_i32_42
  let v66 : BitVec 1 := Scalar.andi v65 v62
  let v67 : BitVec 32 := Scalar.addi v61 v60
  let v68 : BitVec 32 := Scalar.select v66 v67 v61
  let c1_i32_52 : BitVec 32 := 1#32
  let v69 : BitVec 32 := Scalar.muli v68 c1_i32_52
  let v70 : BitVec 32 := Scalar.addi c0_i32_53 v69
  v70.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_58 : BitVec 32 := 1#32
  let v79 : BitVec 32 := Scalar.addi v2 c1_i32_58
  let c4_i32_59 : BitVec 32 := 4#32
  let c0_i32_60 : BitVec 32 := 0#32
  let v80 : BitVec 1 := Scalar.cmpi .eq c4_i32_59 c0_i32_60
  let c1_i32_61 : BitVec 32 := 1#32
  let v81 : BitVec 32 := Scalar.select v80 c1_i32_61 c4_i32_59
  let v82 : BitVec 32 := Scalar.remsi v79 v81
  let c0_i32_63 : BitVec 32 := 0#32
  let v84 : BitVec 1 := Scalar.cmpi .slt v82 c0_i32_63
  let c0_i32_64 : BitVec 32 := 0#32
  let v85 : BitVec 1 := Scalar.cmpi .slt v81 c0_i32_64
  let v86 : BitVec 1 := Scalar.xori v84 v85
  let c0_i32_62 : BitVec 32 := 0#32
  let v83 : BitVec 1 := Scalar.cmpi .ne v82 c0_i32_62
  let v87 : BitVec 1 := Scalar.andi v86 v83
  let v88 : BitVec 32 := Scalar.addi v82 v81
  let v89 : BitVec 32 := Scalar.select v87 v88 v82
  let c1_i32_72 : BitVec 32 := 1#32
  let v90 : BitVec 32 := Scalar.muli v89 c1_i32_72
  let v91 : BitVec 32 := Scalar.addi c0_i32_73 v90
  v91.toNat
def k0_dev6 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_78 : BitVec 32 := 3#32
  let v100 : BitVec 32 := Scalar.addi v2 c3_i32_78
  let c4_i32_79 : BitVec 32 := 4#32
  let c0_i32_80 : BitVec 32 := 0#32
  let v101 : BitVec 1 := Scalar.cmpi .eq c4_i32_79 c0_i32_80
  let c1_i32_81 : BitVec 32 := 1#32
  let v102 : BitVec 32 := Scalar.select v101 c1_i32_81 c4_i32_79
  let v103 : BitVec 32 := Scalar.remsi v100 v102
  let c0_i32_83 : BitVec 32 := 0#32
  let v105 : BitVec 1 := Scalar.cmpi .slt v103 c0_i32_83
  let c0_i32_84 : BitVec 32 := 0#32
  let v106 : BitVec 1 := Scalar.cmpi .slt v102 c0_i32_84
  let v107 : BitVec 1 := Scalar.xori v105 v106
  let c0_i32_82 : BitVec 32 := 0#32
  let v104 : BitVec 1 := Scalar.cmpi .ne v103 c0_i32_82
  let v108 : BitVec 1 := Scalar.andi v107 v104
  let v109 : BitVec 32 := Scalar.addi v103 v102
  let v110 : BitVec 32 := Scalar.select v108 v109 v103
  let c1_i32_92 : BitVec 32 := 1#32
  let v111 : BitVec 32 := Scalar.muli v110 c1_i32_92
  let v112 : BitVec 32 := Scalar.addi c0_i32_93 v111
  v112.toNat
def k0_off4 (d0 : Dev nD) : Fin 4 → Nat :=
  let c0_106 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : Index := Scalar.indexCast v2
  let c128_107 : Index := 128#32
  let c0_108 : Index := 0#32
  ![0, v132.toNat, 128, 0]
def k0_off5 (d0 : Dev nD) : Fin 3 → Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_119 : BitVec 32 := 1#32
  ![0, v2.toNat, 1]
def k0_off6 (d0 : Dev nD) : Fin 4 → Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let c0_i32_125 : BitVec 32 := 0#32
  ![0, v2.toNat, 128, 0]
def k0_dev7 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_109 : BitVec 32 := 2#32
  let v136 : BitVec 32 := Scalar.addi v2 c2_i32_109
  let c4_i32_110 : BitVec 32 := 4#32
  let c0_i32_111 : BitVec 32 := 0#32
  let v137 : BitVec 1 := Scalar.cmpi .eq c4_i32_110 c0_i32_111
  let c1_i32_112 : BitVec 32 := 1#32
  let v138 : BitVec 32 := Scalar.select v137 c1_i32_112 c4_i32_110
  let v139 : BitVec 32 := Scalar.remsi v136 v138
  let c0_i32_114 : BitVec 32 := 0#32
  let v141 : BitVec 1 := Scalar.cmpi .slt v139 c0_i32_114
  let c0_i32_115 : BitVec 32 := 0#32
  let v142 : BitVec 1 := Scalar.cmpi .slt v138 c0_i32_115
  let v143 : BitVec 1 := Scalar.xori v141 v142
  let c0_i32_113 : BitVec 32 := 0#32
  let v140 : BitVec 1 := Scalar.cmpi .ne v139 c0_i32_113
  let v144 : BitVec 1 := Scalar.andi v143 v140
  let v145 : BitVec 32 := Scalar.addi v139 v138
  let v146 : BitVec 32 := Scalar.select v144 v145 v139
  let c1_i32_123 : BitVec 32 := 1#32
  let v147 : BitVec 32 := Scalar.muli v146 c1_i32_123
  let v148 : BitVec 32 := Scalar.addi c0_i32_124 v147
  v148.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_128 : BitVec 32 := 1#32
  let v157 : BitVec 32 := Scalar.addi v2 c1_i32_128
  let c4_i32_129 : BitVec 32 := 4#32
  let c0_i32_130 : BitVec 32 := 0#32
  let v158 : BitVec 1 := Scalar.cmpi .eq c4_i32_129 c0_i32_130
  let c1_i32_131 : BitVec 32 := 1#32
  let v159 : BitVec 32 := Scalar.select v158 c1_i32_131 c4_i32_129
  let v160 : BitVec 32 := Scalar.remsi v157 v159
  let c0_i32_133 : BitVec 32 := 0#32
  let v162 : BitVec 1 := Scalar.cmpi .slt v160 c0_i32_133
  let c0_i32_134 : BitVec 32 := 0#32
  let v163 : BitVec 1 := Scalar.cmpi .slt v159 c0_i32_134
  let v164 : BitVec 1 := Scalar.xori v162 v163
  let c0_i32_132 : BitVec 32 := 0#32
  let v161 : BitVec 1 := Scalar.cmpi .ne v160 c0_i32_132
  let v165 : BitVec 1 := Scalar.andi v164 v161
  let v166 : BitVec 32 := Scalar.addi v160 v159
  let v167 : BitVec 32 := Scalar.select v165 v166 v160
  let c1_i32_142 : BitVec 32 := 1#32
  let v168 : BitVec 32 := Scalar.muli v167 c1_i32_142
  let v169 : BitVec 32 := Scalar.addi c0_i32_143 v168
  v169.toNat
def k0_dev9 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_148 : BitVec 32 := 3#32
  let v178 : BitVec 32 := Scalar.addi v2 c3_i32_148
  let c4_i32_149 : BitVec 32 := 4#32
  let c0_i32_150 : BitVec 32 := 0#32
  let v179 : BitVec 1 := Scalar.cmpi .eq c4_i32_149 c0_i32_150
  let c1_i32_151 : BitVec 32 := 1#32
  let v180 : BitVec 32 := Scalar.select v179 c1_i32_151 c4_i32_149
  let v181 : BitVec 32 := Scalar.remsi v178 v180
  let c0_i32_153 : BitVec 32 := 0#32
  let v183 : BitVec 1 := Scalar.cmpi .slt v181 c0_i32_153
  let c0_i32_154 : BitVec 32 := 0#32
  let v184 : BitVec 1 := Scalar.cmpi .slt v180 c0_i32_154
  let v185 : BitVec 1 := Scalar.xori v183 v184
  let c0_i32_152 : BitVec 32 := 0#32
  let v182 : BitVec 1 := Scalar.cmpi .ne v181 c0_i32_152
  let v186 : BitVec 1 := Scalar.andi v185 v182
  let v187 : BitVec 32 := Scalar.addi v181 v180
  let v188 : BitVec 32 := Scalar.select v186 v187 v181
  let c1_i32_162 : BitVec 32 := 1#32
  let v189 : BitVec 32 := Scalar.muli v188 c1_i32_162
  let v190 : BitVec 32 := Scalar.addi c0_i32_163 v189
  v190.toNat
def k0_off7 (d0 : Dev nD) : Fin 4 → Nat :=
  let c0_176 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v210 : Index := Scalar.indexCast v2
  let c256_177 : Index := 256#32
  let c0_178 : Index := 0#32
  ![0, v210.toNat, 256, 0]
def k0_off8 (d0 : Dev nD) : Fin 3 → Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_189 : BitVec 32 := 2#32
  ![0, v2.toNat, 2]
def k0_off9 (d0 : Dev nD) : Fin 4 → Nat :=
  let c0_i32_187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let c0_i32_195 : BitVec 32 := 0#32
  ![0, v2.toNat, 256, 0]
def k0_dev10 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_179 : BitVec 32 := 2#32
  let v214 : BitVec 32 := Scalar.addi v2 c2_i32_179
  let c4_i32_180 : BitVec 32 := 4#32
  let c0_i32_181 : BitVec 32 := 0#32
  let v215 : BitVec 1 := Scalar.cmpi .eq c4_i32_180 c0_i32_181
  let c1_i32_182 : BitVec 32 := 1#32
  let v216 : BitVec 32 := Scalar.select v215 c1_i32_182 c4_i32_180
  let v217 : BitVec 32 := Scalar.remsi v214 v216
  let c0_i32_184 : BitVec 32 := 0#32
  let v219 : BitVec 1 := Scalar.cmpi .slt v217 c0_i32_184
  let c0_i32_185 : BitVec 32 := 0#32
  let v220 : BitVec 1 := Scalar.cmpi .slt v216 c0_i32_185
  let v221 : BitVec 1 := Scalar.xori v219 v220
  let c0_i32_183 : BitVec 32 := 0#32
  let v218 : BitVec 1 := Scalar.cmpi .ne v217 c0_i32_183
  let v222 : BitVec 1 := Scalar.andi v221 v218
  let v223 : BitVec 32 := Scalar.addi v217 v216
  let v224 : BitVec 32 := Scalar.select v222 v223 v217
  let c1_i32_193 : BitVec 32 := 1#32
  let v225 : BitVec 32 := Scalar.muli v224 c1_i32_193
  let v226 : BitVec 32 := Scalar.addi c0_i32_194 v225
  v226.toNat
def k0_dev11 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_198 : BitVec 32 := 1#32
  let v235 : BitVec 32 := Scalar.addi v2 c1_i32_198
  let c4_i32_199 : BitVec 32 := 4#32
  let c0_i32_200 : BitVec 32 := 0#32
  let v236 : BitVec 1 := Scalar.cmpi .eq c4_i32_199 c0_i32_200
  let c1_i32_201 : BitVec 32 := 1#32
  let v237 : BitVec 32 := Scalar.select v236 c1_i32_201 c4_i32_199
  let v238 : BitVec 32 := Scalar.remsi v235 v237
  let c0_i32_203 : BitVec 32 := 0#32
  let v240 : BitVec 1 := Scalar.cmpi .slt v238 c0_i32_203
  let c0_i32_204 : BitVec 32 := 0#32
  let v241 : BitVec 1 := Scalar.cmpi .slt v237 c0_i32_204
  let v242 : BitVec 1 := Scalar.xori v240 v241
  let c0_i32_202 : BitVec 32 := 0#32
  let v239 : BitVec 1 := Scalar.cmpi .ne v238 c0_i32_202
  let v243 : BitVec 1 := Scalar.andi v242 v239
  let v244 : BitVec 32 := Scalar.addi v238 v237
  let v245 : BitVec 32 := Scalar.select v243 v244 v238
  let c1_i32_212 : BitVec 32 := 1#32
  let v246 : BitVec 32 := Scalar.muli v245 c1_i32_212
  let v247 : BitVec 32 := Scalar.addi c0_i32_213 v246
  v247.toNat
def k0_dev12 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_218 : BitVec 32 := 3#32
  let v256 : BitVec 32 := Scalar.addi v2 c3_i32_218
  let c4_i32_219 : BitVec 32 := 4#32
  let c0_i32_220 : BitVec 32 := 0#32
  let v257 : BitVec 1 := Scalar.cmpi .eq c4_i32_219 c0_i32_220
  let c1_i32_221 : BitVec 32 := 1#32
  let v258 : BitVec 32 := Scalar.select v257 c1_i32_221 c4_i32_219
  let v259 : BitVec 32 := Scalar.remsi v256 v258
  let c0_i32_223 : BitVec 32 := 0#32
  let v261 : BitVec 1 := Scalar.cmpi .slt v259 c0_i32_223
  let c0_i32_224 : BitVec 32 := 0#32
  let v262 : BitVec 1 := Scalar.cmpi .slt v258 c0_i32_224
  let v263 : BitVec 1 := Scalar.xori v261 v262
  let c0_i32_222 : BitVec 32 := 0#32
  let v260 : BitVec 1 := Scalar.cmpi .ne v259 c0_i32_222
  let v264 : BitVec 1 := Scalar.andi v263 v260
  let v265 : BitVec 32 := Scalar.addi v259 v258
  let v266 : BitVec 32 := Scalar.select v264 v265 v259
  let c1_i32_232 : BitVec 32 := 1#32
  let v267 : BitVec 32 := Scalar.muli v266 c1_i32_232
  let v268 : BitVec 32 := Scalar.addi c0_i32_233 v267
  v268.toNat
def k0_off10 (d0 : Dev nD) : Fin 4 → Nat :=
  let c0_246 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v288 : Index := Scalar.indexCast v2
  let c384_247 : Index := 384#32
  let c0_248 : Index := 0#32
  ![0, v288.toNat, 384, 0]
def k0_off11 (d0 : Dev nD) : Fin 3 → Nat :=
  let c0_i32_258 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_259 : BitVec 32 := 3#32
  ![0, v2.toNat, 3]
def k0_off12 (d0 : Dev nD) : Fin 4 → Nat :=
  let c0_i32_257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32 : BitVec 32 := 384#32
  let c0_i32_265 : BitVec 32 := 0#32
  ![0, v2.toNat, 384, 0]
def k0_dev13 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_249 : BitVec 32 := 2#32
  let v292 : BitVec 32 := Scalar.addi v2 c2_i32_249
  let c4_i32_250 : BitVec 32 := 4#32
  let c0_i32_251 : BitVec 32 := 0#32
  let v293 : BitVec 1 := Scalar.cmpi .eq c4_i32_250 c0_i32_251
  let c1_i32_252 : BitVec 32 := 1#32
  let v294 : BitVec 32 := Scalar.select v293 c1_i32_252 c4_i32_250
  let v295 : BitVec 32 := Scalar.remsi v292 v294
  let c0_i32_254 : BitVec 32 := 0#32
  let v297 : BitVec 1 := Scalar.cmpi .slt v295 c0_i32_254
  let c0_i32_255 : BitVec 32 := 0#32
  let v298 : BitVec 1 := Scalar.cmpi .slt v294 c0_i32_255
  let v299 : BitVec 1 := Scalar.xori v297 v298
  let c0_i32_253 : BitVec 32 := 0#32
  let v296 : BitVec 1 := Scalar.cmpi .ne v295 c0_i32_253
  let v300 : BitVec 1 := Scalar.andi v299 v296
  let v301 : BitVec 32 := Scalar.addi v295 v294
  let v302 : BitVec 32 := Scalar.select v300 v301 v295
  let c1_i32_263 : BitVec 32 := 1#32
  let v303 : BitVec 32 := Scalar.muli v302 c1_i32_263
  let v304 : BitVec 32 := Scalar.addi c0_i32_264 v303
  v304.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_268 : BitVec 32 := 1#32
  let v313 : BitVec 32 := Scalar.addi v2 c1_i32_268
  let c4_i32_269 : BitVec 32 := 4#32
  let c0_i32_270 : BitVec 32 := 0#32
  let v314 : BitVec 1 := Scalar.cmpi .eq c4_i32_269 c0_i32_270
  let c1_i32_271 : BitVec 32 := 1#32
  let v315 : BitVec 32 := Scalar.select v314 c1_i32_271 c4_i32_269
  let v316 : BitVec 32 := Scalar.remsi v313 v315
  let c0_i32_273 : BitVec 32 := 0#32
  let v318 : BitVec 1 := Scalar.cmpi .slt v316 c0_i32_273
  let c0_i32_274 : BitVec 32 := 0#32
  let v319 : BitVec 1 := Scalar.cmpi .slt v315 c0_i32_274
  let v320 : BitVec 1 := Scalar.xori v318 v319
  let c0_i32_272 : BitVec 32 := 0#32
  let v317 : BitVec 1 := Scalar.cmpi .ne v316 c0_i32_272
  let v321 : BitVec 1 := Scalar.andi v320 v317
  let v322 : BitVec 32 := Scalar.addi v316 v315
  let v323 : BitVec 32 := Scalar.select v321 v322 v316
  let c1_i32_282 : BitVec 32 := 1#32
  let v324 : BitVec 32 := Scalar.muli v323 c1_i32_282
  let v325 : BitVec 32 := Scalar.addi c0_i32_283 v324
  v325.toNat
def k0_dev15 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_288 : BitVec 32 := 3#32
  let v334 : BitVec 32 := Scalar.addi v2 c3_i32_288
  let c4_i32_289 : BitVec 32 := 4#32
  let c0_i32_290 : BitVec 32 := 0#32
  let v335 : BitVec 1 := Scalar.cmpi .eq c4_i32_289 c0_i32_290
  let c1_i32_291 : BitVec 32 := 1#32
  let v336 : BitVec 32 := Scalar.select v335 c1_i32_291 c4_i32_289
  let v337 : BitVec 32 := Scalar.remsi v334 v336
  let c0_i32_293 : BitVec 32 := 0#32
  let v339 : BitVec 1 := Scalar.cmpi .slt v337 c0_i32_293
  let c0_i32_294 : BitVec 32 := 0#32
  let v340 : BitVec 1 := Scalar.cmpi .slt v336 c0_i32_294
  let v341 : BitVec 1 := Scalar.xori v339 v340
  let c0_i32_292 : BitVec 32 := 0#32
  let v338 : BitVec 1 := Scalar.cmpi .ne v337 c0_i32_292
  let v342 : BitVec 1 := Scalar.andi v341 v338
  let v343 : BitVec 32 := Scalar.addi v337 v336
  let v344 : BitVec 32 := Scalar.select v342 v343 v337
  let c1_i32_302 : BitVec 32 := 1#32
  let v345 : BitVec 32 := Scalar.muli v344 c1_i32_302
  let v346 : BitVec 32 := Scalar.addi c0_i32_303 v345
  v346.toNat
def k0_off13 (d0 : Dev nD) (c1_i32_311 : BitVec 32) : Fin 3 → Nat :=
  let c0_i32_320 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v359 : BitVec 32 := Scalar.addi v2 c1_i32_311
  let c4_i32_312 : BitVec 32 := 4#32
  let c0_i32_313 : BitVec 32 := 0#32
  let v360 : BitVec 1 := Scalar.cmpi .eq c4_i32_312 c0_i32_313
  let c1_i32_314 : BitVec 32 := 1#32
  let v361 : BitVec 32 := Scalar.select v360 c1_i32_314 c4_i32_312
  let v362 : BitVec 32 := Scalar.remsi v359 v361
  let c0_i32_316 : BitVec 32 := 0#32
  let v364 : BitVec 1 := Scalar.cmpi .slt v362 c0_i32_316
  let c0_i32_317 : BitVec 32 := 0#32
  let v365 : BitVec 1 := Scalar.cmpi .slt v361 c0_i32_317
  let v366 : BitVec 1 := Scalar.xori v364 v365
  let c0_i32_315 : BitVec 32 := 0#32
  let v363 : BitVec 1 := Scalar.cmpi .ne v362 c0_i32_315
  let v367 : BitVec 1 := Scalar.andi v366 v363
  let v368 : BitVec 32 := Scalar.addi v362 v361
  let v369 : BitVec 32 := Scalar.select v367 v368 v362
  let c0_i32_321 : BitVec 32 := 0#32
  ![0, v369.toNat, 0]
def k0_off14 (d0 : Dev nD) (c1_i32_311 : BitVec 32) : Fin 4 → Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v359 : BitVec 32 := Scalar.addi v2 c1_i32_311
  let c4_i32_312 : BitVec 32 := 4#32
  let c0_i32_313 : BitVec 32 := 0#32
  let v360 : BitVec 1 := Scalar.cmpi .eq c4_i32_312 c0_i32_313
  let c1_i32_314 : BitVec 32 := 1#32
  let v361 : BitVec 32 := Scalar.select v360 c1_i32_314 c4_i32_312
  let v362 : BitVec 32 := Scalar.remsi v359 v361
  let c0_i32_316 : BitVec 32 := 0#32
  let v364 : BitVec 1 := Scalar.cmpi .slt v362 c0_i32_316
  let c0_i32_317 : BitVec 32 := 0#32
  let v365 : BitVec 1 := Scalar.cmpi .slt v361 c0_i32_317
  let v366 : BitVec 1 := Scalar.xori v364 v365
  let c0_i32_315 : BitVec 32 := 0#32
  let v363 : BitVec 1 := Scalar.cmpi .ne v362 c0_i32_315
  let v367 : BitVec 1 := Scalar.andi v366 v363
  let v368 : BitVec 32 := Scalar.addi v362 v361
  let v369 : BitVec 32 := Scalar.select v367 v368 v362
  let c0_i32_327 : BitVec 32 := 0#32
  let c0_i32_328 : BitVec 32 := 0#32
  ![0, v369.toNat, 0, 0]
def k0_off15 (d0 : Dev nD) (c1_i32_311 : BitVec 32) : Fin 4 → Nat :=
  let c0_331 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v359 : BitVec 32 := Scalar.addi v2 c1_i32_311
  let c4_i32_312 : BitVec 32 := 4#32
  let c0_i32_313 : BitVec 32 := 0#32
  let v360 : BitVec 1 := Scalar.cmpi .eq c4_i32_312 c0_i32_313
  let c1_i32_314 : BitVec 32 := 1#32
  let v361 : BitVec 32 := Scalar.select v360 c1_i32_314 c4_i32_312
  let v362 : BitVec 32 := Scalar.remsi v359 v361
  let c0_i32_316 : BitVec 32 := 0#32
  let v364 : BitVec 1 := Scalar.cmpi .slt v362 c0_i32_316
  let c0_i32_317 : BitVec 32 := 0#32
  let v365 : BitVec 1 := Scalar.cmpi .slt v361 c0_i32_317
  let v366 : BitVec 1 := Scalar.xori v364 v365
  let c0_i32_315 : BitVec 32 := 0#32
  let v363 : BitVec 1 := Scalar.cmpi .ne v362 c0_i32_315
  let v367 : BitVec 1 := Scalar.andi v366 v363
  let v368 : BitVec 32 := Scalar.addi v362 v361
  let v369 : BitVec 32 := Scalar.select v367 v368 v362
  let v378 : Index := Scalar.indexCast v369
  let c0_332 : Index := 0#32
  let c0_333 : Index := 0#32
  ![0, v378.toNat, 0, 0]
def k0_off16 (d0 : Dev nD) : Fin 4 → Nat :=
  let c1 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v440 : Index := Scalar.indexCast v2
  let c0_387 : Index := 0#32
  let c0_388 : Index := 0#32
  ![1, v440.toNat, 0, 0]
def k0_off17 (d0 : Dev nD) : Fin 3 → Nat :=
  let c1_i32_398 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_399 : BitVec 32 := 0#32
  ![1, v2.toNat, 0]
def k0_off18 (d0 : Dev nD) : Fin 4 → Nat :=
  let c1_i32_397 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_405 : BitVec 32 := 0#32
  let c0_i32_406 : BitVec 32 := 0#32
  ![1, v2.toNat, 0, 0]
def k0_dev16 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_389 : BitVec 32 := 2#32
  let v444 : BitVec 32 := Scalar.addi v2 c2_i32_389
  let c4_i32_390 : BitVec 32 := 4#32
  let c0_i32_391 : BitVec 32 := 0#32
  let v445 : BitVec 1 := Scalar.cmpi .eq c4_i32_390 c0_i32_391
  let c1_i32_392 : BitVec 32 := 1#32
  let v446 : BitVec 32 := Scalar.select v445 c1_i32_392 c4_i32_390
  let v447 : BitVec 32 := Scalar.remsi v444 v446
  let c0_i32_394 : BitVec 32 := 0#32
  let v449 : BitVec 1 := Scalar.cmpi .slt v447 c0_i32_394
  let c0_i32_395 : BitVec 32 := 0#32
  let v450 : BitVec 1 := Scalar.cmpi .slt v446 c0_i32_395
  let v451 : BitVec 1 := Scalar.xori v449 v450
  let c0_i32_393 : BitVec 32 := 0#32
  let v448 : BitVec 1 := Scalar.cmpi .ne v447 c0_i32_393
  let v452 : BitVec 1 := Scalar.andi v451 v448
  let v453 : BitVec 32 := Scalar.addi v447 v446
  let v454 : BitVec 32 := Scalar.select v452 v453 v447
  let c1_i32_403 : BitVec 32 := 1#32
  let v455 : BitVec 32 := Scalar.muli v454 c1_i32_403
  let v456 : BitVec 32 := Scalar.addi c0_i32_404 v455
  v456.toNat
def k0_dev17 (d0 : Dev nD) : Nat :=
  let c0_i32_424 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_409 : BitVec 32 := 1#32
  let v465 : BitVec 32 := Scalar.addi v2 c1_i32_409
  let c4_i32_410 : BitVec 32 := 4#32
  let c0_i32_411 : BitVec 32 := 0#32
  let v466 : BitVec 1 := Scalar.cmpi .eq c4_i32_410 c0_i32_411
  let c1_i32_412 : BitVec 32 := 1#32
  let v467 : BitVec 32 := Scalar.select v466 c1_i32_412 c4_i32_410
  let v468 : BitVec 32 := Scalar.remsi v465 v467
  let c0_i32_414 : BitVec 32 := 0#32
  let v470 : BitVec 1 := Scalar.cmpi .slt v468 c0_i32_414
  let c0_i32_415 : BitVec 32 := 0#32
  let v471 : BitVec 1 := Scalar.cmpi .slt v467 c0_i32_415
  let v472 : BitVec 1 := Scalar.xori v470 v471
  let c0_i32_413 : BitVec 32 := 0#32
  let v469 : BitVec 1 := Scalar.cmpi .ne v468 c0_i32_413
  let v473 : BitVec 1 := Scalar.andi v472 v469
  let v474 : BitVec 32 := Scalar.addi v468 v467
  let v475 : BitVec 32 := Scalar.select v473 v474 v468
  let c1_i32_423 : BitVec 32 := 1#32
  let v476 : BitVec 32 := Scalar.muli v475 c1_i32_423
  let v477 : BitVec 32 := Scalar.addi c0_i32_424 v476
  v477.toNat
def k0_dev18 (d0 : Dev nD) : Nat :=
  let c0_i32_444 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_429 : BitVec 32 := 3#32
  let v486 : BitVec 32 := Scalar.addi v2 c3_i32_429
  let c4_i32_430 : BitVec 32 := 4#32
  let c0_i32_431 : BitVec 32 := 0#32
  let v487 : BitVec 1 := Scalar.cmpi .eq c4_i32_430 c0_i32_431
  let c1_i32_432 : BitVec 32 := 1#32
  let v488 : BitVec 32 := Scalar.select v487 c1_i32_432 c4_i32_430
  let v489 : BitVec 32 := Scalar.remsi v486 v488
  let c0_i32_434 : BitVec 32 := 0#32
  let v491 : BitVec 1 := Scalar.cmpi .slt v489 c0_i32_434
  let c0_i32_435 : BitVec 32 := 0#32
  let v492 : BitVec 1 := Scalar.cmpi .slt v488 c0_i32_435
  let v493 : BitVec 1 := Scalar.xori v491 v492
  let c0_i32_433 : BitVec 32 := 0#32
  let v490 : BitVec 1 := Scalar.cmpi .ne v489 c0_i32_433
  let v494 : BitVec 1 := Scalar.andi v493 v490
  let v495 : BitVec 32 := Scalar.addi v489 v488
  let v496 : BitVec 32 := Scalar.select v494 v495 v489
  let c1_i32_443 : BitVec 32 := 1#32
  let v497 : BitVec 32 := Scalar.muli v496 c1_i32_443
  let v498 : BitVec 32 := Scalar.addi c0_i32_444 v497
  v498.toNat
def k0_off19 (d0 : Dev nD) (c1_i32_452 : BitVec 32) : Fin 3 → Nat :=
  let c0_i32_461 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v511 : BitVec 32 := Scalar.addi v2 c1_i32_452
  let c4_i32_453 : BitVec 32 := 4#32
  let c0_i32_454 : BitVec 32 := 0#32
  let v512 : BitVec 1 := Scalar.cmpi .eq c4_i32_453 c0_i32_454
  let c1_i32_455 : BitVec 32 := 1#32
  let v513 : BitVec 32 := Scalar.select v512 c1_i32_455 c4_i32_453
  let v514 : BitVec 32 := Scalar.remsi v511 v513
  let c0_i32_457 : BitVec 32 := 0#32
  let v516 : BitVec 1 := Scalar.cmpi .slt v514 c0_i32_457
  let c0_i32_458 : BitVec 32 := 0#32
  let v517 : BitVec 1 := Scalar.cmpi .slt v513 c0_i32_458
  let v518 : BitVec 1 := Scalar.xori v516 v517
  let c0_i32_456 : BitVec 32 := 0#32
  let v515 : BitVec 1 := Scalar.cmpi .ne v514 c0_i32_456
  let v519 : BitVec 1 := Scalar.andi v518 v515
  let v520 : BitVec 32 := Scalar.addi v514 v513
  let v521 : BitVec 32 := Scalar.select v519 v520 v514
  let c1_i32_462 : BitVec 32 := 1#32
  ![0, v521.toNat, 1]
def k0_off20 (d0 : Dev nD) (c1_i32_452 : BitVec 32) : Fin 4 → Nat :=
  let c0_i32_460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v511 : BitVec 32 := Scalar.addi v2 c1_i32_452
  let c4_i32_453 : BitVec 32 := 4#32
  let c0_i32_454 : BitVec 32 := 0#32
  let v512 : BitVec 1 := Scalar.cmpi .eq c4_i32_453 c0_i32_454
  let c1_i32_455 : BitVec 32 := 1#32
  let v513 : BitVec 32 := Scalar.select v512 c1_i32_455 c4_i32_453
  let v514 : BitVec 32 := Scalar.remsi v511 v513
  let c0_i32_457 : BitVec 32 := 0#32
  let v516 : BitVec 1 := Scalar.cmpi .slt v514 c0_i32_457
  let c0_i32_458 : BitVec 32 := 0#32
  let v517 : BitVec 1 := Scalar.cmpi .slt v513 c0_i32_458
  let v518 : BitVec 1 := Scalar.xori v516 v517
  let c0_i32_456 : BitVec 32 := 0#32
  let v515 : BitVec 1 := Scalar.cmpi .ne v514 c0_i32_456
  let v519 : BitVec 1 := Scalar.andi v518 v515
  let v520 : BitVec 32 := Scalar.addi v514 v513
  let v521 : BitVec 32 := Scalar.select v519 v520 v514
  let c128_i32_468 : BitVec 32 := 128#32
  let c0_i32_469 : BitVec 32 := 0#32
  ![0, v521.toNat, 128, 0]
def k0_off21 (d0 : Dev nD) (c1_i32_452 : BitVec 32) : Fin 4 → Nat :=
  let c0_472 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v511 : BitVec 32 := Scalar.addi v2 c1_i32_452
  let c4_i32_453 : BitVec 32 := 4#32
  let c0_i32_454 : BitVec 32 := 0#32
  let v512 : BitVec 1 := Scalar.cmpi .eq c4_i32_453 c0_i32_454
  let c1_i32_455 : BitVec 32 := 1#32
  let v513 : BitVec 32 := Scalar.select v512 c1_i32_455 c4_i32_453
  let v514 : BitVec 32 := Scalar.remsi v511 v513
  let c0_i32_457 : BitVec 32 := 0#32
  let v516 : BitVec 1 := Scalar.cmpi .slt v514 c0_i32_457
  let c0_i32_458 : BitVec 32 := 0#32
  let v517 : BitVec 1 := Scalar.cmpi .slt v513 c0_i32_458
  let v518 : BitVec 1 := Scalar.xori v516 v517
  let c0_i32_456 : BitVec 32 := 0#32
  let v515 : BitVec 1 := Scalar.cmpi .ne v514 c0_i32_456
  let v519 : BitVec 1 := Scalar.andi v518 v515
  let v520 : BitVec 32 := Scalar.addi v514 v513
  let v521 : BitVec 32 := Scalar.select v519 v520 v514
  let v530 : Index := Scalar.indexCast v521
  let c128_473 : Index := 128#32
  let c0_474 : Index := 0#32
  ![0, v530.toNat, 128, 0]
def k0_off22 (d0 : Dev nD) : Fin 4 → Nat :=
  let c1_528 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v592 : Index := Scalar.indexCast v2
  let c128_529 : Index := 128#32
  let c0_530 : Index := 0#32
  ![1, v592.toNat, 128, 0]
def k0_off23 (d0 : Dev nD) : Fin 3 → Nat :=
  let c1_i32_540 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_541 : BitVec 32 := 1#32
  ![1, v2.toNat, 1]
def k0_off24 (d0 : Dev nD) : Fin 4 → Nat :=
  let c1_i32_539 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_547 : BitVec 32 := 128#32
  let c0_i32_548 : BitVec 32 := 0#32
  ![1, v2.toNat, 128, 0]
def k0_dev19 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_531 : BitVec 32 := 2#32
  let v596 : BitVec 32 := Scalar.addi v2 c2_i32_531
  let c4_i32_532 : BitVec 32 := 4#32
  let c0_i32_533 : BitVec 32 := 0#32
  let v597 : BitVec 1 := Scalar.cmpi .eq c4_i32_532 c0_i32_533
  let c1_i32_534 : BitVec 32 := 1#32
  let v598 : BitVec 32 := Scalar.select v597 c1_i32_534 c4_i32_532
  let v599 : BitVec 32 := Scalar.remsi v596 v598
  let c0_i32_536 : BitVec 32 := 0#32
  let v601 : BitVec 1 := Scalar.cmpi .slt v599 c0_i32_536
  let c0_i32_537 : BitVec 32 := 0#32
  let v602 : BitVec 1 := Scalar.cmpi .slt v598 c0_i32_537
  let v603 : BitVec 1 := Scalar.xori v601 v602
  let c0_i32_535 : BitVec 32 := 0#32
  let v600 : BitVec 1 := Scalar.cmpi .ne v599 c0_i32_535
  let v604 : BitVec 1 := Scalar.andi v603 v600
  let v605 : BitVec 32 := Scalar.addi v599 v598
  let v606 : BitVec 32 := Scalar.select v604 v605 v599
  let c1_i32_545 : BitVec 32 := 1#32
  let v607 : BitVec 32 := Scalar.muli v606 c1_i32_545
  let v608 : BitVec 32 := Scalar.addi c0_i32_546 v607
  v608.toNat
def k0_dev20 (d0 : Dev nD) : Nat :=
  let c0_i32_566 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_551 : BitVec 32 := 1#32
  let v617 : BitVec 32 := Scalar.addi v2 c1_i32_551
  let c4_i32_552 : BitVec 32 := 4#32
  let c0_i32_553 : BitVec 32 := 0#32
  let v618 : BitVec 1 := Scalar.cmpi .eq c4_i32_552 c0_i32_553
  let c1_i32_554 : BitVec 32 := 1#32
  let v619 : BitVec 32 := Scalar.select v618 c1_i32_554 c4_i32_552
  let v620 : BitVec 32 := Scalar.remsi v617 v619
  let c0_i32_556 : BitVec 32 := 0#32
  let v622 : BitVec 1 := Scalar.cmpi .slt v620 c0_i32_556
  let c0_i32_557 : BitVec 32 := 0#32
  let v623 : BitVec 1 := Scalar.cmpi .slt v619 c0_i32_557
  let v624 : BitVec 1 := Scalar.xori v622 v623
  let c0_i32_555 : BitVec 32 := 0#32
  let v621 : BitVec 1 := Scalar.cmpi .ne v620 c0_i32_555
  let v625 : BitVec 1 := Scalar.andi v624 v621
  let v626 : BitVec 32 := Scalar.addi v620 v619
  let v627 : BitVec 32 := Scalar.select v625 v626 v620
  let c1_i32_565 : BitVec 32 := 1#32
  let v628 : BitVec 32 := Scalar.muli v627 c1_i32_565
  let v629 : BitVec 32 := Scalar.addi c0_i32_566 v628
  v629.toNat
def k0_dev21 (d0 : Dev nD) : Nat :=
  let c0_i32_586 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_571 : BitVec 32 := 3#32
  let v638 : BitVec 32 := Scalar.addi v2 c3_i32_571
  let c4_i32_572 : BitVec 32 := 4#32
  let c0_i32_573 : BitVec 32 := 0#32
  let v639 : BitVec 1 := Scalar.cmpi .eq c4_i32_572 c0_i32_573
  let c1_i32_574 : BitVec 32 := 1#32
  let v640 : BitVec 32 := Scalar.select v639 c1_i32_574 c4_i32_572
  let v641 : BitVec 32 := Scalar.remsi v638 v640
  let c0_i32_576 : BitVec 32 := 0#32
  let v643 : BitVec 1 := Scalar.cmpi .slt v641 c0_i32_576
  let c0_i32_577 : BitVec 32 := 0#32
  let v644 : BitVec 1 := Scalar.cmpi .slt v640 c0_i32_577
  let v645 : BitVec 1 := Scalar.xori v643 v644
  let c0_i32_575 : BitVec 32 := 0#32
  let v642 : BitVec 1 := Scalar.cmpi .ne v641 c0_i32_575
  let v646 : BitVec 1 := Scalar.andi v645 v642
  let v647 : BitVec 32 := Scalar.addi v641 v640
  let v648 : BitVec 32 := Scalar.select v646 v647 v641
  let c1_i32_585 : BitVec 32 := 1#32
  let v649 : BitVec 32 := Scalar.muli v648 c1_i32_585
  let v650 : BitVec 32 := Scalar.addi c0_i32_586 v649
  v650.toNat
def k0_off25 (d0 : Dev nD) (c1_i32_594 : BitVec 32) : Fin 3 → Nat :=
  let c0_i32_603 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v663 : BitVec 32 := Scalar.addi v2 c1_i32_594
  let c4_i32_595 : BitVec 32 := 4#32
  let c0_i32_596 : BitVec 32 := 0#32
  let v664 : BitVec 1 := Scalar.cmpi .eq c4_i32_595 c0_i32_596
  let c1_i32_597 : BitVec 32 := 1#32
  let v665 : BitVec 32 := Scalar.select v664 c1_i32_597 c4_i32_595
  let v666 : BitVec 32 := Scalar.remsi v663 v665
  let c0_i32_599 : BitVec 32 := 0#32
  let v668 : BitVec 1 := Scalar.cmpi .slt v666 c0_i32_599
  let c0_i32_600 : BitVec 32 := 0#32
  let v669 : BitVec 1 := Scalar.cmpi .slt v665 c0_i32_600
  let v670 : BitVec 1 := Scalar.xori v668 v669
  let c0_i32_598 : BitVec 32 := 0#32
  let v667 : BitVec 1 := Scalar.cmpi .ne v666 c0_i32_598
  let v671 : BitVec 1 := Scalar.andi v670 v667
  let v672 : BitVec 32 := Scalar.addi v666 v665
  let v673 : BitVec 32 := Scalar.select v671 v672 v666
  let c2_i32_604 : BitVec 32 := 2#32
  ![0, v673.toNat, 2]
def k0_off26 (d0 : Dev nD) (c1_i32_594 : BitVec 32) : Fin 4 → Nat :=
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v663 : BitVec 32 := Scalar.addi v2 c1_i32_594
  let c4_i32_595 : BitVec 32 := 4#32
  let c0_i32_596 : BitVec 32 := 0#32
  let v664 : BitVec 1 := Scalar.cmpi .eq c4_i32_595 c0_i32_596
  let c1_i32_597 : BitVec 32 := 1#32
  let v665 : BitVec 32 := Scalar.select v664 c1_i32_597 c4_i32_595
  let v666 : BitVec 32 := Scalar.remsi v663 v665
  let c0_i32_599 : BitVec 32 := 0#32
  let v668 : BitVec 1 := Scalar.cmpi .slt v666 c0_i32_599
  let c0_i32_600 : BitVec 32 := 0#32
  let v669 : BitVec 1 := Scalar.cmpi .slt v665 c0_i32_600
  let v670 : BitVec 1 := Scalar.xori v668 v669
  let c0_i32_598 : BitVec 32 := 0#32
  let v667 : BitVec 1 := Scalar.cmpi .ne v666 c0_i32_598
  let v671 : BitVec 1 := Scalar.andi v670 v667
  let v672 : BitVec 32 := Scalar.addi v666 v665
  let v673 : BitVec 32 := Scalar.select v671 v672 v666
  let c256_i32_610 : BitVec 32 := 256#32
  let c0_i32_611 : BitVec 32 := 0#32
  ![0, v673.toNat, 256, 0]
def k0_off27 (d0 : Dev nD) (c1_i32_594 : BitVec 32) : Fin 4 → Nat :=
  let c0_614 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v663 : BitVec 32 := Scalar.addi v2 c1_i32_594
  let c4_i32_595 : BitVec 32 := 4#32
  let c0_i32_596 : BitVec 32 := 0#32
  let v664 : BitVec 1 := Scalar.cmpi .eq c4_i32_595 c0_i32_596
  let c1_i32_597 : BitVec 32 := 1#32
  let v665 : BitVec 32 := Scalar.select v664 c1_i32_597 c4_i32_595
  let v666 : BitVec 32 := Scalar.remsi v663 v665
  let c0_i32_599 : BitVec 32 := 0#32
  let v668 : BitVec 1 := Scalar.cmpi .slt v666 c0_i32_599
  let c0_i32_600 : BitVec 32 := 0#32
  let v669 : BitVec 1 := Scalar.cmpi .slt v665 c0_i32_600
  let v670 : BitVec 1 := Scalar.xori v668 v669
  let c0_i32_598 : BitVec 32 := 0#32
  let v667 : BitVec 1 := Scalar.cmpi .ne v666 c0_i32_598
  let v671 : BitVec 1 := Scalar.andi v670 v667
  let v672 : BitVec 32 := Scalar.addi v666 v665
  let v673 : BitVec 32 := Scalar.select v671 v672 v666
  let v682 : Index := Scalar.indexCast v673
  let c256_615 : Index := 256#32
  let c0_616 : Index := 0#32
  ![0, v682.toNat, 256, 0]
def k0_off28 (d0 : Dev nD) : Fin 4 → Nat :=
  let c1_670 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v744 : Index := Scalar.indexCast v2
  let c256_671 : Index := 256#32
  let c0_672 : Index := 0#32
  ![1, v744.toNat, 256, 0]
def k0_off29 (d0 : Dev nD) : Fin 3 → Nat :=
  let c1_i32_682 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_683 : BitVec 32 := 2#32
  ![1, v2.toNat, 2]
def k0_off30 (d0 : Dev nD) : Fin 4 → Nat :=
  let c1_i32_681 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_689 : BitVec 32 := 256#32
  let c0_i32_690 : BitVec 32 := 0#32
  ![1, v2.toNat, 256, 0]
def k0_dev22 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_673 : BitVec 32 := 2#32
  let v748 : BitVec 32 := Scalar.addi v2 c2_i32_673
  let c4_i32_674 : BitVec 32 := 4#32
  let c0_i32_675 : BitVec 32 := 0#32
  let v749 : BitVec 1 := Scalar.cmpi .eq c4_i32_674 c0_i32_675
  let c1_i32_676 : BitVec 32 := 1#32
  let v750 : BitVec 32 := Scalar.select v749 c1_i32_676 c4_i32_674
  let v751 : BitVec 32 := Scalar.remsi v748 v750
  let c0_i32_678 : BitVec 32 := 0#32
  let v753 : BitVec 1 := Scalar.cmpi .slt v751 c0_i32_678
  let c0_i32_679 : BitVec 32 := 0#32
  let v754 : BitVec 1 := Scalar.cmpi .slt v750 c0_i32_679
  let v755 : BitVec 1 := Scalar.xori v753 v754
  let c0_i32_677 : BitVec 32 := 0#32
  let v752 : BitVec 1 := Scalar.cmpi .ne v751 c0_i32_677
  let v756 : BitVec 1 := Scalar.andi v755 v752
  let v757 : BitVec 32 := Scalar.addi v751 v750
  let v758 : BitVec 32 := Scalar.select v756 v757 v751
  let c1_i32_687 : BitVec 32 := 1#32
  let v759 : BitVec 32 := Scalar.muli v758 c1_i32_687
  let v760 : BitVec 32 := Scalar.addi c0_i32_688 v759
  v760.toNat
def k0_dev23 (d0 : Dev nD) : Nat :=
  let c0_i32_708 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_693 : BitVec 32 := 1#32
  let v769 : BitVec 32 := Scalar.addi v2 c1_i32_693
  let c4_i32_694 : BitVec 32 := 4#32
  let c0_i32_695 : BitVec 32 := 0#32
  let v770 : BitVec 1 := Scalar.cmpi .eq c4_i32_694 c0_i32_695
  let c1_i32_696 : BitVec 32 := 1#32
  let v771 : BitVec 32 := Scalar.select v770 c1_i32_696 c4_i32_694
  let v772 : BitVec 32 := Scalar.remsi v769 v771
  let c0_i32_698 : BitVec 32 := 0#32
  let v774 : BitVec 1 := Scalar.cmpi .slt v772 c0_i32_698
  let c0_i32_699 : BitVec 32 := 0#32
  let v775 : BitVec 1 := Scalar.cmpi .slt v771 c0_i32_699
  let v776 : BitVec 1 := Scalar.xori v774 v775
  let c0_i32_697 : BitVec 32 := 0#32
  let v773 : BitVec 1 := Scalar.cmpi .ne v772 c0_i32_697
  let v777 : BitVec 1 := Scalar.andi v776 v773
  let v778 : BitVec 32 := Scalar.addi v772 v771
  let v779 : BitVec 32 := Scalar.select v777 v778 v772
  let c1_i32_707 : BitVec 32 := 1#32
  let v780 : BitVec 32 := Scalar.muli v779 c1_i32_707
  let v781 : BitVec 32 := Scalar.addi c0_i32_708 v780
  v781.toNat
def k0_dev24 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_713 : BitVec 32 := 3#32
  let v790 : BitVec 32 := Scalar.addi v2 c3_i32_713
  let c4_i32_714 : BitVec 32 := 4#32
  let c0_i32_715 : BitVec 32 := 0#32
  let v791 : BitVec 1 := Scalar.cmpi .eq c4_i32_714 c0_i32_715
  let c1_i32_716 : BitVec 32 := 1#32
  let v792 : BitVec 32 := Scalar.select v791 c1_i32_716 c4_i32_714
  let v793 : BitVec 32 := Scalar.remsi v790 v792
  let c0_i32_718 : BitVec 32 := 0#32
  let v795 : BitVec 1 := Scalar.cmpi .slt v793 c0_i32_718
  let c0_i32_719 : BitVec 32 := 0#32
  let v796 : BitVec 1 := Scalar.cmpi .slt v792 c0_i32_719
  let v797 : BitVec 1 := Scalar.xori v795 v796
  let c0_i32_717 : BitVec 32 := 0#32
  let v794 : BitVec 1 := Scalar.cmpi .ne v793 c0_i32_717
  let v798 : BitVec 1 := Scalar.andi v797 v794
  let v799 : BitVec 32 := Scalar.addi v793 v792
  let v800 : BitVec 32 := Scalar.select v798 v799 v793
  let c1_i32_727 : BitVec 32 := 1#32
  let v801 : BitVec 32 := Scalar.muli v800 c1_i32_727
  let v802 : BitVec 32 := Scalar.addi c0_i32_728 v801
  v802.toNat
def k0_off31 (d0 : Dev nD) (c1_i32_736 : BitVec 32) : Fin 3 → Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v815 : BitVec 32 := Scalar.addi v2 c1_i32_736
  let c4_i32_737 : BitVec 32 := 4#32
  let c0_i32_738 : BitVec 32 := 0#32
  let v816 : BitVec 1 := Scalar.cmpi .eq c4_i32_737 c0_i32_738
  let c1_i32_739 : BitVec 32 := 1#32
  let v817 : BitVec 32 := Scalar.select v816 c1_i32_739 c4_i32_737
  let v818 : BitVec 32 := Scalar.remsi v815 v817
  let c0_i32_741 : BitVec 32 := 0#32
  let v820 : BitVec 1 := Scalar.cmpi .slt v818 c0_i32_741
  let c0_i32_742 : BitVec 32 := 0#32
  let v821 : BitVec 1 := Scalar.cmpi .slt v817 c0_i32_742
  let v822 : BitVec 1 := Scalar.xori v820 v821
  let c0_i32_740 : BitVec 32 := 0#32
  let v819 : BitVec 1 := Scalar.cmpi .ne v818 c0_i32_740
  let v823 : BitVec 1 := Scalar.andi v822 v819
  let v824 : BitVec 32 := Scalar.addi v818 v817
  let v825 : BitVec 32 := Scalar.select v823 v824 v818
  let c3_i32_746 : BitVec 32 := 3#32
  ![0, v825.toNat, 3]
def k0_off32 (d0 : Dev nD) (c1_i32_736 : BitVec 32) : Fin 4 → Nat :=
  let c0_i32_744 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v815 : BitVec 32 := Scalar.addi v2 c1_i32_736
  let c4_i32_737 : BitVec 32 := 4#32
  let c0_i32_738 : BitVec 32 := 0#32
  let v816 : BitVec 1 := Scalar.cmpi .eq c4_i32_737 c0_i32_738
  let c1_i32_739 : BitVec 32 := 1#32
  let v817 : BitVec 32 := Scalar.select v816 c1_i32_739 c4_i32_737
  let v818 : BitVec 32 := Scalar.remsi v815 v817
  let c0_i32_741 : BitVec 32 := 0#32
  let v820 : BitVec 1 := Scalar.cmpi .slt v818 c0_i32_741
  let c0_i32_742 : BitVec 32 := 0#32
  let v821 : BitVec 1 := Scalar.cmpi .slt v817 c0_i32_742
  let v822 : BitVec 1 := Scalar.xori v820 v821
  let c0_i32_740 : BitVec 32 := 0#32
  let v819 : BitVec 1 := Scalar.cmpi .ne v818 c0_i32_740
  let v823 : BitVec 1 := Scalar.andi v822 v819
  let v824 : BitVec 32 := Scalar.addi v818 v817
  let v825 : BitVec 32 := Scalar.select v823 v824 v818
  let c384_i32_752 : BitVec 32 := 384#32
  let c0_i32_753 : BitVec 32 := 0#32
  ![0, v825.toNat, 384, 0]
def k0_off33 (d0 : Dev nD) (c1_i32_736 : BitVec 32) : Fin 4 → Nat :=
  let c0_756 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v815 : BitVec 32 := Scalar.addi v2 c1_i32_736
  let c4_i32_737 : BitVec 32 := 4#32
  let c0_i32_738 : BitVec 32 := 0#32
  let v816 : BitVec 1 := Scalar.cmpi .eq c4_i32_737 c0_i32_738
  let c1_i32_739 : BitVec 32 := 1#32
  let v817 : BitVec 32 := Scalar.select v816 c1_i32_739 c4_i32_737
  let v818 : BitVec 32 := Scalar.remsi v815 v817
  let c0_i32_741 : BitVec 32 := 0#32
  let v820 : BitVec 1 := Scalar.cmpi .slt v818 c0_i32_741
  let c0_i32_742 : BitVec 32 := 0#32
  let v821 : BitVec 1 := Scalar.cmpi .slt v817 c0_i32_742
  let v822 : BitVec 1 := Scalar.xori v820 v821
  let c0_i32_740 : BitVec 32 := 0#32
  let v819 : BitVec 1 := Scalar.cmpi .ne v818 c0_i32_740
  let v823 : BitVec 1 := Scalar.andi v822 v819
  let v824 : BitVec 32 := Scalar.addi v818 v817
  let v825 : BitVec 32 := Scalar.select v823 v824 v818
  let v834 : Index := Scalar.indexCast v825
  let c384_757 : Index := 384#32
  let c0_758 : Index := 0#32
  ![0, v834.toNat, 384, 0]
def k0_off34 (d0 : Dev nD) : Fin 4 → Nat :=
  let c1_812 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v896 : Index := Scalar.indexCast v2
  let c384_813 : Index := 384#32
  let c0_814 : Index := 0#32
  ![1, v896.toNat, 384, 0]
def k0_off35 (d0 : Dev nD) : Fin 3 → Nat :=
  let c1_i32_824 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_825 : BitVec 32 := 3#32
  ![1, v2.toNat, 3]
def k0_off36 (d0 : Dev nD) : Fin 4 → Nat :=
  let c1_i32_823 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_831 : BitVec 32 := 384#32
  let c0_i32_832 : BitVec 32 := 0#32
  ![1, v2.toNat, 384, 0]
def k0_dev25 (d0 : Dev nD) : Nat :=
  let c0_i32_830 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_815 : BitVec 32 := 2#32
  let v900 : BitVec 32 := Scalar.addi v2 c2_i32_815
  let c4_i32_816 : BitVec 32 := 4#32
  let c0_i32_817 : BitVec 32 := 0#32
  let v901 : BitVec 1 := Scalar.cmpi .eq c4_i32_816 c0_i32_817
  let c1_i32_818 : BitVec 32 := 1#32
  let v902 : BitVec 32 := Scalar.select v901 c1_i32_818 c4_i32_816
  let v903 : BitVec 32 := Scalar.remsi v900 v902
  let c0_i32_820 : BitVec 32 := 0#32
  let v905 : BitVec 1 := Scalar.cmpi .slt v903 c0_i32_820
  let c0_i32_821 : BitVec 32 := 0#32
  let v906 : BitVec 1 := Scalar.cmpi .slt v902 c0_i32_821
  let v907 : BitVec 1 := Scalar.xori v905 v906
  let c0_i32_819 : BitVec 32 := 0#32
  let v904 : BitVec 1 := Scalar.cmpi .ne v903 c0_i32_819
  let v908 : BitVec 1 := Scalar.andi v907 v904
  let v909 : BitVec 32 := Scalar.addi v903 v902
  let v910 : BitVec 32 := Scalar.select v908 v909 v903
  let c1_i32_829 : BitVec 32 := 1#32
  let v911 : BitVec 32 := Scalar.muli v910 c1_i32_829
  let v912 : BitVec 32 := Scalar.addi c0_i32_830 v911
  v912.toNat
def k0_dev26 (d0 : Dev nD) : Nat :=
  let c0_i32_850 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_835 : BitVec 32 := 1#32
  let v921 : BitVec 32 := Scalar.addi v2 c1_i32_835
  let c4_i32_836 : BitVec 32 := 4#32
  let c0_i32_837 : BitVec 32 := 0#32
  let v922 : BitVec 1 := Scalar.cmpi .eq c4_i32_836 c0_i32_837
  let c1_i32_838 : BitVec 32 := 1#32
  let v923 : BitVec 32 := Scalar.select v922 c1_i32_838 c4_i32_836
  let v924 : BitVec 32 := Scalar.remsi v921 v923
  let c0_i32_840 : BitVec 32 := 0#32
  let v926 : BitVec 1 := Scalar.cmpi .slt v924 c0_i32_840
  let c0_i32_841 : BitVec 32 := 0#32
  let v927 : BitVec 1 := Scalar.cmpi .slt v923 c0_i32_841
  let v928 : BitVec 1 := Scalar.xori v926 v927
  let c0_i32_839 : BitVec 32 := 0#32
  let v925 : BitVec 1 := Scalar.cmpi .ne v924 c0_i32_839
  let v929 : BitVec 1 := Scalar.andi v928 v925
  let v930 : BitVec 32 := Scalar.addi v924 v923
  let v931 : BitVec 32 := Scalar.select v929 v930 v924
  let c1_i32_849 : BitVec 32 := 1#32
  let v932 : BitVec 32 := Scalar.muli v931 c1_i32_849
  let v933 : BitVec 32 := Scalar.addi c0_i32_850 v932
  v933.toNat
def k0_dev27 (d0 : Dev nD) : Nat :=
  let c0_i32_870 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_855 : BitVec 32 := 3#32
  let v942 : BitVec 32 := Scalar.addi v2 c3_i32_855
  let c4_i32_856 : BitVec 32 := 4#32
  let c0_i32_857 : BitVec 32 := 0#32
  let v943 : BitVec 1 := Scalar.cmpi .eq c4_i32_856 c0_i32_857
  let c1_i32_858 : BitVec 32 := 1#32
  let v944 : BitVec 32 := Scalar.select v943 c1_i32_858 c4_i32_856
  let v945 : BitVec 32 := Scalar.remsi v942 v944
  let c0_i32_860 : BitVec 32 := 0#32
  let v947 : BitVec 1 := Scalar.cmpi .slt v945 c0_i32_860
  let c0_i32_861 : BitVec 32 := 0#32
  let v948 : BitVec 1 := Scalar.cmpi .slt v944 c0_i32_861
  let v949 : BitVec 1 := Scalar.xori v947 v948
  let c0_i32_859 : BitVec 32 := 0#32
  let v946 : BitVec 1 := Scalar.cmpi .ne v945 c0_i32_859
  let v950 : BitVec 1 := Scalar.andi v949 v946
  let v951 : BitVec 32 := Scalar.addi v945 v944
  let v952 : BitVec 32 := Scalar.select v950 v951 v945
  let c1_i32_869 : BitVec 32 := 1#32
  let v953 : BitVec 32 := Scalar.muli v952 c1_i32_869
  let v954 : BitVec 32 := Scalar.addi c0_i32_870 v953
  v954.toNat
def k0_off37 (d0 : Dev nD) (c1_i32_878 : BitVec 32) : Fin 3 → Nat :=
  let c1_i32_887 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v967 : BitVec 32 := Scalar.addi v2 c1_i32_878
  let c4_i32_879 : BitVec 32 := 4#32
  let c0_i32_880 : BitVec 32 := 0#32
  let v968 : BitVec 1 := Scalar.cmpi .eq c4_i32_879 c0_i32_880
  let c1_i32_881 : BitVec 32 := 1#32
  let v969 : BitVec 32 := Scalar.select v968 c1_i32_881 c4_i32_879
  let v970 : BitVec 32 := Scalar.remsi v967 v969
  let c0_i32_883 : BitVec 32 := 0#32
  let v972 : BitVec 1 := Scalar.cmpi .slt v970 c0_i32_883
  let c0_i32_884 : BitVec 32 := 0#32
  let v973 : BitVec 1 := Scalar.cmpi .slt v969 c0_i32_884
  let v974 : BitVec 1 := Scalar.xori v972 v973
  let c0_i32_882 : BitVec 32 := 0#32
  let v971 : BitVec 1 := Scalar.cmpi .ne v970 c0_i32_882
  let v975 : BitVec 1 := Scalar.andi v974 v971
  let v976 : BitVec 32 := Scalar.addi v970 v969
  let v977 : BitVec 32 := Scalar.select v975 v976 v970
  let c0_i32_888 : BitVec 32 := 0#32
  ![1, v977.toNat, 0]
def k0_off38 (d0 : Dev nD) (c1_i32_878 : BitVec 32) : Fin 4 → Nat :=
  let c1_i32_886 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v967 : BitVec 32 := Scalar.addi v2 c1_i32_878
  let c4_i32_879 : BitVec 32 := 4#32
  let c0_i32_880 : BitVec 32 := 0#32
  let v968 : BitVec 1 := Scalar.cmpi .eq c4_i32_879 c0_i32_880
  let c1_i32_881 : BitVec 32 := 1#32
  let v969 : BitVec 32 := Scalar.select v968 c1_i32_881 c4_i32_879
  let v970 : BitVec 32 := Scalar.remsi v967 v969
  let c0_i32_883 : BitVec 32 := 0#32
  let v972 : BitVec 1 := Scalar.cmpi .slt v970 c0_i32_883
  let c0_i32_884 : BitVec 32 := 0#32
  let v973 : BitVec 1 := Scalar.cmpi .slt v969 c0_i32_884
  let v974 : BitVec 1 := Scalar.xori v972 v973
  let c0_i32_882 : BitVec 32 := 0#32
  let v971 : BitVec 1 := Scalar.cmpi .ne v970 c0_i32_882
  let v975 : BitVec 1 := Scalar.andi v974 v971
  let v976 : BitVec 32 := Scalar.addi v970 v969
  let v977 : BitVec 32 := Scalar.select v975 v976 v970
  let c0_i32_894 : BitVec 32 := 0#32
  let c0_i32_895 : BitVec 32 := 0#32
  ![1, v977.toNat, 0, 0]
def k0_off39 (d0 : Dev nD) (c1_i32_878 : BitVec 32) : Fin 4 → Nat :=
  let c1_898 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v967 : BitVec 32 := Scalar.addi v2 c1_i32_878
  let c4_i32_879 : BitVec 32 := 4#32
  let c0_i32_880 : BitVec 32 := 0#32
  let v968 : BitVec 1 := Scalar.cmpi .eq c4_i32_879 c0_i32_880
  let c1_i32_881 : BitVec 32 := 1#32
  let v969 : BitVec 32 := Scalar.select v968 c1_i32_881 c4_i32_879
  let v970 : BitVec 32 := Scalar.remsi v967 v969
  let c0_i32_883 : BitVec 32 := 0#32
  let v972 : BitVec 1 := Scalar.cmpi .slt v970 c0_i32_883
  let c0_i32_884 : BitVec 32 := 0#32
  let v973 : BitVec 1 := Scalar.cmpi .slt v969 c0_i32_884
  let v974 : BitVec 1 := Scalar.xori v972 v973
  let c0_i32_882 : BitVec 32 := 0#32
  let v971 : BitVec 1 := Scalar.cmpi .ne v970 c0_i32_882
  let v975 : BitVec 1 := Scalar.andi v974 v971
  let v976 : BitVec 32 := Scalar.addi v970 v969
  let v977 : BitVec 32 := Scalar.select v975 v976 v970
  let v986 : Index := Scalar.indexCast v977
  let c0_899 : Index := 0#32
  let c0_900 : Index := 0#32
  ![1, v986.toNat, 0, 0]
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_957 : BitVec 32 := 0#32
  let v1051 : BitVec 1 := Scalar.cmpi .ne v2 c0_i32_957
  let v1052 : BitVec 32 := Scalar.extui v1051
  let c0_i32_958 : BitVec 32 := 0#32
  let v1053 : BitVec 1 := Scalar.cmpi .ne v1052 c0_i32_958
  v1053

def k0_off40 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1562 : BitVec 32 := 0#32
  let c0_i32_1563 : BitVec 32 := 0#32
  ![v2.toNat, 0, 0]
def k0_dev28 : Nat :=
  let c0_i32_1561 : BitVec 32 := 0#32
  let c0_i32_1559 : BitVec 32 := 0#32
  let c1_i32_1560 : BitVec 32 := 1#32
  let v1560 : BitVec 32 := Scalar.muli c0_i32_1559 c1_i32_1560
  let v1561 : BitVec 32 := Scalar.addi c0_i32_1561 v1560
  v1561.toNat
def k0_off42 (d0 : Dev nD) (c1_i32_962 : BitVec 32) : Fin 3 → Nat :=
  let c1_i32_971 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1058 : BitVec 32 := Scalar.addi v2 c1_i32_962
  let c4_i32_963 : BitVec 32 := 4#32
  let c0_i32_964 : BitVec 32 := 0#32
  let v1059 : BitVec 1 := Scalar.cmpi .eq c4_i32_963 c0_i32_964
  let c1_i32_965 : BitVec 32 := 1#32
  let v1060 : BitVec 32 := Scalar.select v1059 c1_i32_965 c4_i32_963
  let v1061 : BitVec 32 := Scalar.remsi v1058 v1060
  let c0_i32_967 : BitVec 32 := 0#32
  let v1063 : BitVec 1 := Scalar.cmpi .slt v1061 c0_i32_967
  let c0_i32_968 : BitVec 32 := 0#32
  let v1064 : BitVec 1 := Scalar.cmpi .slt v1060 c0_i32_968
  let v1065 : BitVec 1 := Scalar.xori v1063 v1064
  let c0_i32_966 : BitVec 32 := 0#32
  let v1062 : BitVec 1 := Scalar.cmpi .ne v1061 c0_i32_966
  let v1066 : BitVec 1 := Scalar.andi v1065 v1062
  let v1067 : BitVec 32 := Scalar.addi v1061 v1060
  let v1068 : BitVec 32 := Scalar.select v1066 v1067 v1061
  let c1_i32_972 : BitVec 32 := 1#32
  ![1, v1068.toNat, 1]
def k0_off43 (d0 : Dev nD) (c1_i32_962 : BitVec 32) : Fin 4 → Nat :=
  let c1_i32_970 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1058 : BitVec 32 := Scalar.addi v2 c1_i32_962
  let c4_i32_963 : BitVec 32 := 4#32
  let c0_i32_964 : BitVec 32 := 0#32
  let v1059 : BitVec 1 := Scalar.cmpi .eq c4_i32_963 c0_i32_964
  let c1_i32_965 : BitVec 32 := 1#32
  let v1060 : BitVec 32 := Scalar.select v1059 c1_i32_965 c4_i32_963
  let v1061 : BitVec 32 := Scalar.remsi v1058 v1060
  let c0_i32_967 : BitVec 32 := 0#32
  let v1063 : BitVec 1 := Scalar.cmpi .slt v1061 c0_i32_967
  let c0_i32_968 : BitVec 32 := 0#32
  let v1064 : BitVec 1 := Scalar.cmpi .slt v1060 c0_i32_968
  let v1065 : BitVec 1 := Scalar.xori v1063 v1064
  let c0_i32_966 : BitVec 32 := 0#32
  let v1062 : BitVec 1 := Scalar.cmpi .ne v1061 c0_i32_966
  let v1066 : BitVec 1 := Scalar.andi v1065 v1062
  let v1067 : BitVec 32 := Scalar.addi v1061 v1060
  let v1068 : BitVec 32 := Scalar.select v1066 v1067 v1061
  let c128_i32_978 : BitVec 32 := 128#32
  let c0_i32_979 : BitVec 32 := 0#32
  ![1, v1068.toNat, 128, 0]
def k0_off44 (d0 : Dev nD) (c1_i32_962 : BitVec 32) : Fin 4 → Nat :=
  let c1_982 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1058 : BitVec 32 := Scalar.addi v2 c1_i32_962
  let c4_i32_963 : BitVec 32 := 4#32
  let c0_i32_964 : BitVec 32 := 0#32
  let v1059 : BitVec 1 := Scalar.cmpi .eq c4_i32_963 c0_i32_964
  let c1_i32_965 : BitVec 32 := 1#32
  let v1060 : BitVec 32 := Scalar.select v1059 c1_i32_965 c4_i32_963
  let v1061 : BitVec 32 := Scalar.remsi v1058 v1060
  let c0_i32_967 : BitVec 32 := 0#32
  let v1063 : BitVec 1 := Scalar.cmpi .slt v1061 c0_i32_967
  let c0_i32_968 : BitVec 32 := 0#32
  let v1064 : BitVec 1 := Scalar.cmpi .slt v1060 c0_i32_968
  let v1065 : BitVec 1 := Scalar.xori v1063 v1064
  let c0_i32_966 : BitVec 32 := 0#32
  let v1062 : BitVec 1 := Scalar.cmpi .ne v1061 c0_i32_966
  let v1066 : BitVec 1 := Scalar.andi v1065 v1062
  let v1067 : BitVec 32 := Scalar.addi v1061 v1060
  let v1068 : BitVec 32 := Scalar.select v1066 v1067 v1061
  let v1077 : Index := Scalar.indexCast v1068
  let c128_983 : Index := 128#32
  let c0_984 : Index := 0#32
  ![1, v1077.toNat, 128, 0]
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1041 : BitVec 32 := 1#32
  let v1142 : BitVec 1 := Scalar.cmpi .ne v2 c1_i32_1041
  let v1143 : BitVec 32 := Scalar.extui v1142
  let c0_i32_1042 : BitVec 32 := 0#32
  let v1144 : BitVec 1 := Scalar.cmpi .ne v1143 c0_i32_1042
  v1144

def k0_off45 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1562 : BitVec 32 := 0#32
  let c0_i32_1563 : BitVec 32 := 0#32
  ![v2.toNat, 0, 0]
def k0_dev29 : Nat :=
  let c0_i32_1561 : BitVec 32 := 0#32
  let c1_i32_1559 : BitVec 32 := 1#32
  let c1_i32_1560 : BitVec 32 := 1#32
  let v1560 : BitVec 32 := Scalar.muli c1_i32_1559 c1_i32_1560
  let v1561 : BitVec 32 := Scalar.addi c0_i32_1561 v1560
  v1561.toNat
def k0_off47 (d0 : Dev nD) (c1_i32_1046 : BitVec 32) : Fin 3 → Nat :=
  let c1_i32_1055 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1149 : BitVec 32 := Scalar.addi v2 c1_i32_1046
  let c4_i32_1047 : BitVec 32 := 4#32
  let c0_i32_1048 : BitVec 32 := 0#32
  let v1150 : BitVec 1 := Scalar.cmpi .eq c4_i32_1047 c0_i32_1048
  let c1_i32_1049 : BitVec 32 := 1#32
  let v1151 : BitVec 32 := Scalar.select v1150 c1_i32_1049 c4_i32_1047
  let v1152 : BitVec 32 := Scalar.remsi v1149 v1151
  let c0_i32_1051 : BitVec 32 := 0#32
  let v1154 : BitVec 1 := Scalar.cmpi .slt v1152 c0_i32_1051
  let c0_i32_1052 : BitVec 32 := 0#32
  let v1155 : BitVec 1 := Scalar.cmpi .slt v1151 c0_i32_1052
  let v1156 : BitVec 1 := Scalar.xori v1154 v1155
  let c0_i32_1050 : BitVec 32 := 0#32
  let v1153 : BitVec 1 := Scalar.cmpi .ne v1152 c0_i32_1050
  let v1157 : BitVec 1 := Scalar.andi v1156 v1153
  let v1158 : BitVec 32 := Scalar.addi v1152 v1151
  let v1159 : BitVec 32 := Scalar.select v1157 v1158 v1152
  let c2_i32_1056 : BitVec 32 := 2#32
  ![1, v1159.toNat, 2]
def k0_off48 (d0 : Dev nD) (c1_i32_1046 : BitVec 32) : Fin 4 → Nat :=
  let c1_i32_1054 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1149 : BitVec 32 := Scalar.addi v2 c1_i32_1046
  let c4_i32_1047 : BitVec 32 := 4#32
  let c0_i32_1048 : BitVec 32 := 0#32
  let v1150 : BitVec 1 := Scalar.cmpi .eq c4_i32_1047 c0_i32_1048
  let c1_i32_1049 : BitVec 32 := 1#32
  let v1151 : BitVec 32 := Scalar.select v1150 c1_i32_1049 c4_i32_1047
  let v1152 : BitVec 32 := Scalar.remsi v1149 v1151
  let c0_i32_1051 : BitVec 32 := 0#32
  let v1154 : BitVec 1 := Scalar.cmpi .slt v1152 c0_i32_1051
  let c0_i32_1052 : BitVec 32 := 0#32
  let v1155 : BitVec 1 := Scalar.cmpi .slt v1151 c0_i32_1052
  let v1156 : BitVec 1 := Scalar.xori v1154 v1155
  let c0_i32_1050 : BitVec 32 := 0#32
  let v1153 : BitVec 1 := Scalar.cmpi .ne v1152 c0_i32_1050
  let v1157 : BitVec 1 := Scalar.andi v1156 v1153
  let v1158 : BitVec 32 := Scalar.addi v1152 v1151
  let v1159 : BitVec 32 := Scalar.select v1157 v1158 v1152
  let c256_i32_1062 : BitVec 32 := 256#32
  let c0_i32_1063 : BitVec 32 := 0#32
  ![1, v1159.toNat, 256, 0]
def k0_off49 (d0 : Dev nD) (c1_i32_1046 : BitVec 32) : Fin 4 → Nat :=
  let c1_1066 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1149 : BitVec 32 := Scalar.addi v2 c1_i32_1046
  let c4_i32_1047 : BitVec 32 := 4#32
  let c0_i32_1048 : BitVec 32 := 0#32
  let v1150 : BitVec 1 := Scalar.cmpi .eq c4_i32_1047 c0_i32_1048
  let c1_i32_1049 : BitVec 32 := 1#32
  let v1151 : BitVec 32 := Scalar.select v1150 c1_i32_1049 c4_i32_1047
  let v1152 : BitVec 32 := Scalar.remsi v1149 v1151
  let c0_i32_1051 : BitVec 32 := 0#32
  let v1154 : BitVec 1 := Scalar.cmpi .slt v1152 c0_i32_1051
  let c0_i32_1052 : BitVec 32 := 0#32
  let v1155 : BitVec 1 := Scalar.cmpi .slt v1151 c0_i32_1052
  let v1156 : BitVec 1 := Scalar.xori v1154 v1155
  let c0_i32_1050 : BitVec 32 := 0#32
  let v1153 : BitVec 1 := Scalar.cmpi .ne v1152 c0_i32_1050
  let v1157 : BitVec 1 := Scalar.andi v1156 v1153
  let v1158 : BitVec 32 := Scalar.addi v1152 v1151
  let v1159 : BitVec 32 := Scalar.select v1157 v1158 v1152
  let v1168 : Index := Scalar.indexCast v1159
  let c256_1067 : Index := 256#32
  let c0_1068 : Index := 0#32
  ![1, v1168.toNat, 256, 0]
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1124 : BitVec 32 := 2#32
  let v1233 : BitVec 1 := Scalar.cmpi .ne v2 c2_i32_1124
  let v1234 : BitVec 32 := Scalar.extui v1233
  let c0_i32_1125 : BitVec 32 := 0#32
  let v1235 : BitVec 1 := Scalar.cmpi .ne v1234 c0_i32_1125
  v1235

def k0_off50 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1562 : BitVec 32 := 0#32
  let c0_i32_1563 : BitVec 32 := 0#32
  ![v2.toNat, 0, 0]
def k0_dev30 : Nat :=
  let c0_i32_1561 : BitVec 32 := 0#32
  let c2_i32_1559 : BitVec 32 := 2#32
  let c1_i32_1560 : BitVec 32 := 1#32
  let v1560 : BitVec 32 := Scalar.muli c2_i32_1559 c1_i32_1560
  let v1561 : BitVec 32 := Scalar.addi c0_i32_1561 v1560
  v1561.toNat
def k0_off52 (d0 : Dev nD) (c1_i32_1129 : BitVec 32) : Fin 3 → Nat :=
  let c1_i32_1138 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1240 : BitVec 32 := Scalar.addi v2 c1_i32_1129
  let c4_i32_1130 : BitVec 32 := 4#32
  let c0_i32_1131 : BitVec 32 := 0#32
  let v1241 : BitVec 1 := Scalar.cmpi .eq c4_i32_1130 c0_i32_1131
  let c1_i32_1132 : BitVec 32 := 1#32
  let v1242 : BitVec 32 := Scalar.select v1241 c1_i32_1132 c4_i32_1130
  let v1243 : BitVec 32 := Scalar.remsi v1240 v1242
  let c0_i32_1134 : BitVec 32 := 0#32
  let v1245 : BitVec 1 := Scalar.cmpi .slt v1243 c0_i32_1134
  let c0_i32_1135 : BitVec 32 := 0#32
  let v1246 : BitVec 1 := Scalar.cmpi .slt v1242 c0_i32_1135
  let v1247 : BitVec 1 := Scalar.xori v1245 v1246
  let c0_i32_1133 : BitVec 32 := 0#32
  let v1244 : BitVec 1 := Scalar.cmpi .ne v1243 c0_i32_1133
  let v1248 : BitVec 1 := Scalar.andi v1247 v1244
  let v1249 : BitVec 32 := Scalar.addi v1243 v1242
  let v1250 : BitVec 32 := Scalar.select v1248 v1249 v1243
  let c3_i32_1139 : BitVec 32 := 3#32
  ![1, v1250.toNat, 3]
def k0_off53 (d0 : Dev nD) (c1_i32_1129 : BitVec 32) : Fin 4 → Nat :=
  let c1_i32_1137 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1240 : BitVec 32 := Scalar.addi v2 c1_i32_1129
  let c4_i32_1130 : BitVec 32 := 4#32
  let c0_i32_1131 : BitVec 32 := 0#32
  let v1241 : BitVec 1 := Scalar.cmpi .eq c4_i32_1130 c0_i32_1131
  let c1_i32_1132 : BitVec 32 := 1#32
  let v1242 : BitVec 32 := Scalar.select v1241 c1_i32_1132 c4_i32_1130
  let v1243 : BitVec 32 := Scalar.remsi v1240 v1242
  let c0_i32_1134 : BitVec 32 := 0#32
  let v1245 : BitVec 1 := Scalar.cmpi .slt v1243 c0_i32_1134
  let c0_i32_1135 : BitVec 32 := 0#32
  let v1246 : BitVec 1 := Scalar.cmpi .slt v1242 c0_i32_1135
  let v1247 : BitVec 1 := Scalar.xori v1245 v1246
  let c0_i32_1133 : BitVec 32 := 0#32
  let v1244 : BitVec 1 := Scalar.cmpi .ne v1243 c0_i32_1133
  let v1248 : BitVec 1 := Scalar.andi v1247 v1244
  let v1249 : BitVec 32 := Scalar.addi v1243 v1242
  let v1250 : BitVec 32 := Scalar.select v1248 v1249 v1243
  let c384_i32_1145 : BitVec 32 := 384#32
  let c0_i32_1146 : BitVec 32 := 0#32
  ![1, v1250.toNat, 384, 0]
def k0_off54 (d0 : Dev nD) (c1_i32_1129 : BitVec 32) : Fin 4 → Nat :=
  let c1_1149 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1240 : BitVec 32 := Scalar.addi v2 c1_i32_1129
  let c4_i32_1130 : BitVec 32 := 4#32
  let c0_i32_1131 : BitVec 32 := 0#32
  let v1241 : BitVec 1 := Scalar.cmpi .eq c4_i32_1130 c0_i32_1131
  let c1_i32_1132 : BitVec 32 := 1#32
  let v1242 : BitVec 32 := Scalar.select v1241 c1_i32_1132 c4_i32_1130
  let v1243 : BitVec 32 := Scalar.remsi v1240 v1242
  let c0_i32_1134 : BitVec 32 := 0#32
  let v1245 : BitVec 1 := Scalar.cmpi .slt v1243 c0_i32_1134
  let c0_i32_1135 : BitVec 32 := 0#32
  let v1246 : BitVec 1 := Scalar.cmpi .slt v1242 c0_i32_1135
  let v1247 : BitVec 1 := Scalar.xori v1245 v1246
  let c0_i32_1133 : BitVec 32 := 0#32
  let v1244 : BitVec 1 := Scalar.cmpi .ne v1243 c0_i32_1133
  let v1248 : BitVec 1 := Scalar.andi v1247 v1244
  let v1249 : BitVec 32 := Scalar.addi v1243 v1242
  let v1250 : BitVec 32 := Scalar.select v1248 v1249 v1243
  let v1259 : Index := Scalar.indexCast v1250
  let c384_1150 : Index := 384#32
  let c0_1151 : Index := 0#32
  ![1, v1259.toNat, 384, 0]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1207 : BitVec 32 := 3#32
  let v1324 : BitVec 1 := Scalar.cmpi .ne v2 c3_i32_1207
  let v1325 : BitVec 32 := Scalar.extui v1324
  let c0_i32_1208 : BitVec 32 := 0#32
  let v1326 : BitVec 1 := Scalar.cmpi .ne v1325 c0_i32_1208
  v1326

def k0_off55 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1562 : BitVec 32 := 0#32
  let c0_i32_1563 : BitVec 32 := 0#32
  ![v2.toNat, 0, 0]
def k0_dev31 : Nat :=
  let c0_i32_1561 : BitVec 32 := 0#32
  let c3_i32_1559 : BitVec 32 := 3#32
  let c1_i32_1560 : BitVec 32 := 1#32
  let v1560 : BitVec 32 := Scalar.muli c3_i32_1559 c1_i32_1560
  let v1561 : BitVec 32 := Scalar.addi c0_i32_1561 v1560
  v1561.toNat
def k0_off57 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1327 : Index := Scalar.indexCast v2
  let c0_1209 : Index := 0#32
  let c0_1210 : Index := 0#32
  ![v1327.toNat, 0, 0]
def k0_off58 (d0 : Dev nD) (c1_i32_1211 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1331 : BitVec 32 := Scalar.addi v2 c1_i32_1211
  let c4_i32_1212 : BitVec 32 := 4#32
  let c0_i32_1213 : BitVec 32 := 0#32
  let v1332 : BitVec 1 := Scalar.cmpi .eq c4_i32_1212 c0_i32_1213
  let c1_i32_1214 : BitVec 32 := 1#32
  let v1333 : BitVec 32 := Scalar.select v1332 c1_i32_1214 c4_i32_1212
  let v1334 : BitVec 32 := Scalar.remsi v1331 v1333
  let c0_i32_1216 : BitVec 32 := 0#32
  let v1336 : BitVec 1 := Scalar.cmpi .slt v1334 c0_i32_1216
  let c0_i32_1217 : BitVec 32 := 0#32
  let v1337 : BitVec 1 := Scalar.cmpi .slt v1333 c0_i32_1217
  let v1338 : BitVec 1 := Scalar.xori v1336 v1337
  let c0_i32_1215 : BitVec 32 := 0#32
  let v1335 : BitVec 1 := Scalar.cmpi .ne v1334 c0_i32_1215
  let v1339 : BitVec 1 := Scalar.andi v1338 v1335
  let v1340 : BitVec 32 := Scalar.addi v1334 v1333
  let v1341 : BitVec 32 := Scalar.select v1339 v1340 v1334
  ![v1341.toNat]
def k0_off59 (d0 : Dev nD) (c1_i32_1211 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1331 : BitVec 32 := Scalar.addi v2 c1_i32_1211
  let c4_i32_1212 : BitVec 32 := 4#32
  let c0_i32_1213 : BitVec 32 := 0#32
  let v1332 : BitVec 1 := Scalar.cmpi .eq c4_i32_1212 c0_i32_1213
  let c1_i32_1214 : BitVec 32 := 1#32
  let v1333 : BitVec 32 := Scalar.select v1332 c1_i32_1214 c4_i32_1212
  let v1334 : BitVec 32 := Scalar.remsi v1331 v1333
  let c0_i32_1216 : BitVec 32 := 0#32
  let v1336 : BitVec 1 := Scalar.cmpi .slt v1334 c0_i32_1216
  let c0_i32_1217 : BitVec 32 := 0#32
  let v1337 : BitVec 1 := Scalar.cmpi .slt v1333 c0_i32_1217
  let v1338 : BitVec 1 := Scalar.xori v1336 v1337
  let c0_i32_1215 : BitVec 32 := 0#32
  let v1335 : BitVec 1 := Scalar.cmpi .ne v1334 c0_i32_1215
  let v1339 : BitVec 1 := Scalar.andi v1338 v1335
  let v1340 : BitVec 32 := Scalar.addi v1334 v1333
  let v1341 : BitVec 32 := Scalar.select v1339 v1340 v1334
  let c0_i32_1221 : BitVec 32 := 0#32
  let c0_i32_1222 : BitVec 32 := 0#32
  ![v1341.toNat, 0, 0]
def k0_off60 (d0 : Dev nD) (c1_i32_1211 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1331 : BitVec 32 := Scalar.addi v2 c1_i32_1211
  let c4_i32_1212 : BitVec 32 := 4#32
  let c0_i32_1213 : BitVec 32 := 0#32
  let v1332 : BitVec 1 := Scalar.cmpi .eq c4_i32_1212 c0_i32_1213
  let c1_i32_1214 : BitVec 32 := 1#32
  let v1333 : BitVec 32 := Scalar.select v1332 c1_i32_1214 c4_i32_1212
  let v1334 : BitVec 32 := Scalar.remsi v1331 v1333
  let c0_i32_1216 : BitVec 32 := 0#32
  let v1336 : BitVec 1 := Scalar.cmpi .slt v1334 c0_i32_1216
  let c0_i32_1217 : BitVec 32 := 0#32
  let v1337 : BitVec 1 := Scalar.cmpi .slt v1333 c0_i32_1217
  let v1338 : BitVec 1 := Scalar.xori v1336 v1337
  let c0_i32_1215 : BitVec 32 := 0#32
  let v1335 : BitVec 1 := Scalar.cmpi .ne v1334 c0_i32_1215
  let v1339 : BitVec 1 := Scalar.andi v1338 v1335
  let v1340 : BitVec 32 := Scalar.addi v1334 v1333
  let v1341 : BitVec 32 := Scalar.select v1339 v1340 v1334
  let v1350 : Index := Scalar.indexCast v1341
  let c0_1225 : Index := 0#32
  let c0_1226 : Index := 0#32
  ![v1350.toNat, 0, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1549 : BitVec 32 := 0#32
  let v1548 : BitVec 1 := Scalar.cmpi .ne v2 c0_i32_1549
  let v1549 : BitVec 32 := Scalar.extui v1548
  let c0_i32_1550 : BitVec 32 := 0#32
  let v1550 : BitVec 1 := Scalar.cmpi .ne v1549 c0_i32_1550
  v1550

def k0_off61 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1563 : BitVec 32 := 0#32
  let c0_i32_1564 : BitVec 32 := 0#32
  ![v2.toNat, 0, 0]
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1551 : BitVec 32 := 1#32
  let v1551 : BitVec 1 := Scalar.cmpi .ne v2 c1_i32_1551
  let v1552 : BitVec 32 := Scalar.extui v1551
  let c0_i32_1552 : BitVec 32 := 0#32
  let v1553 : BitVec 1 := Scalar.cmpi .ne v1552 c0_i32_1552
  v1553

def k0_off62 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1563 : BitVec 32 := 0#32
  let c0_i32_1564 : BitVec 32 := 0#32
  ![v2.toNat, 0, 0]
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1553 : BitVec 32 := 2#32
  let v1554 : BitVec 1 := Scalar.cmpi .ne v2 c2_i32_1553
  let v1555 : BitVec 32 := Scalar.extui v1554
  let c0_i32_1554 : BitVec 32 := 0#32
  let v1556 : BitVec 1 := Scalar.cmpi .ne v1555 c0_i32_1554
  v1556

def k0_off63 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1563 : BitVec 32 := 0#32
  let c0_i32_1564 : BitVec 32 := 0#32
  ![v2.toNat, 0, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1555 : BitVec 32 := 3#32
  let v1557 : BitVec 1 := Scalar.cmpi .ne v2 c3_i32_1555
  let v1558 : BitVec 32 := Scalar.extui v1557
  let c0_i32_1556 : BitVec 32 := 0#32
  let v1559 : BitVec 1 := Scalar.cmpi .ne v1558 c0_i32_1556
  v1559

def k0_off64 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1563 : BitVec 32 := 0#32
  let c0_i32_1564 : BitVec 32 := 0#32
  ![v2.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x256 : Shape := ⟨2, ![512, 256]⟩
abbrev S256x2048 : Shape := ⟨2, ![256, 2048]⟩
abbrev S2048x256 : Shape := ⟨2, ![2048, 256]⟩
abbrev S512x2048 : Shape := ⟨2, ![512, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S512x2048, .f32⟩
  | .hbm, ⟨8, _⟩ => ⟨S_, .f32⟩
  | .hbm, ⟨9, _⟩ => ⟨S512x2048, .f32⟩
  | .hbm, ⟨10, _⟩ => ⟨S512x2048, .f32⟩
  | .hbm, ⟨11, _⟩ => ⟨S512x256, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x256, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Cells.lean ====
/-
# The cells, the windows and their geometry

Every device `c` of the four runs the same body. This module names what the body touches: the peers of a device,
its semaphore cells (the barrier's, the 24 broadcast send cells, the 32 broadcast receive cells, the four send and
the four receive cells of the last exchange), and the windows of its three scratch buffers that the transfers move.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueIdxCore
public import Mathlib.Data.Fintype.Sum
public import Mathlib.Data.Fintype.Prod

@[expose] public section

set_option synthInstance.maxSize 4096

noncomputable section

namespace Cert.K

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Peers -/

set_option backward.proofsInPublic true in
/-- The device `o + 1` places after `c` on the ring of four. -/
def peer (c : Dev nD) (o : Fin 3) : Dev nD := ⟨(c.val + o.val + 1) % 4, Nat.mod_lt _ (by decide)⟩

theorem peer_ne (c : Dev nD) (o : Fin 3) : peer c o ≠ c := by revert c o; decide
theorem ne_peer (c : Dev nD) (o : Fin 3) : c ≠ peer c o := by revert c o; decide

/-! ## The semaphores -/

/-- The kernel's own DMA semaphores: sends of the broadcasts by (layer, chunk, peer), receives of the broadcasts by
    (layer, sender, chunk), sends and receives of the last exchange. -/
abbrev KX : Type := (Fin 2 × Fin 4 × Fin 3) ⊕ (Fin 2 × Fin 4 × Fin 4) ⊕ Fin 4 ⊕ Fin 4
/-- All cells: the barrier (the left summand) and the kernel's own. -/
abbrev CX : Type := Unit ⊕ KX

set_option backward.proofsInPublic true in
def sndS (l : Fin 2) (j : Fin 4) (o : Fin 3) : DmaSem sig := (⟨8 + ((l.val * 4 + j.val) * 3 + o.val), by omega⟩ : Fin 72)
set_option backward.proofsInPublic true in
def rcvS (l : Fin 2) (s : Fin 4) (j : Fin 4) : DmaSem sig := (⟨32 + ((l.val * 4 + s.val) * 4 + j.val), by omega⟩ : Fin 72)
set_option backward.proofsInPublic true in
def srsS (j : Fin 4) : DmaSem sig := (⟨64 + j.val, by omega⟩ : Fin 72)
set_option backward.proofsInPublic true in
def rrsS (s : Fin 4) : DmaSem sig := (⟨68 + s.val, by omega⟩ : Fin 72)

/-- The barrier semaphore of the collective: one per core, not the kernel's own. -/
abbrev barS : Sem sig := (SemArray.scalar (sig.barrier 0 rfl) : Sems sig S_).sem

def odma : KX → DmaSem sig
  | .inl (l, j, o) => sndS l j o
  | .inr (.inl (l, s, j)) => rcvS l s j
  | .inr (.inr (.inl j)) => srsS j
  | .inr (.inr (.inr s)) => rrsS s
abbrev osem (k : KX) : SemLoc sig := .dma (odma k)
def csem : CX → SemLoc sig
  | .inl _ => .reg barS
  | .inr k => osem k

/-- The cell of each semaphore. -/
abbrev cellD (c : Dev nD) (q : DmaSem sig) : GSem nD τ sig := ((c : Thread nD τ), .dma q)
abbrev barCell (c : Dev nD) : GSem nD τ sig := ((c : Thread nD τ), .reg barS)
abbrev kcell (ck : Dev nD × CX) : GSem nD τ sig := ((ck.1 : Thread nD τ), csem ck.2)

set_option backward.proofsInPublic true in
/-- What a DMA semaphore is, by its number. -/
def kindD (q : DmaSem sig) : CX :=
  if q.val < 8 then .inl ()
  else if q.val < 32 then .inr (.inl (Fin.ofNat 2 ((q.val - 8) / 12), Fin.ofNat 4 ((q.val - 8) / 3 % 4), Fin.ofNat 3 ((q.val - 8) % 3)))
  else if q.val < 64 then .inr (.inr (.inl (Fin.ofNat 2 ((q.val - 32) / 16), Fin.ofNat 4 ((q.val - 32) / 4 % 4), Fin.ofNat 4 ((q.val - 32) % 4))))
  else if q.val < 68 then .inr (.inr (.inr (.inl (Fin.ofNat 4 (q.val - 64)))))
  else .inr (.inr (.inr (.inr (Fin.ofNat 4 (q.val - 68)))))

theorem kindD_odma : ∀ k : KX, kindD (odma k) = .inr k := by decide +kernel
theorem kindD_snd (l : Fin 2) (j : Fin 4) (o : Fin 3) : kindD (sndS l j o) = .inr (.inl (l, j, o)) := kindD_odma (.inl (l, j, o))
theorem kindD_rcv (l : Fin 2) (s j : Fin 4) : kindD (rcvS l s j) = .inr (.inr (.inl (l, s, j))) := kindD_odma (.inr (.inl (l, s, j)))
theorem kindD_srs (j : Fin 4) : kindD (srsS j) = .inr (.inr (.inr (.inl j))) := kindD_odma (.inr (.inr (.inl j)))
theorem kindD_rrs (s : Fin 4) : kindD (rrsS s) = .inr (.inr (.inr (.inr s))) := kindD_odma (.inr (.inr (.inr s)))

theorem odma_injective : Function.Injective odma := fun a b h => by
  have := kindD_odma a; rw [h, kindD_odma b] at this; exact (Sum.inr.inj this).symm
theorem csem_injective : Function.Injective csem
  | .inl _, .inl _, _ => rfl
  | .inl _, .inr _, h => by cases h
  | .inr _, .inl _, h => by cases h
  | .inr a, .inr b, h => congrArg Sum.inr (odma_injective (SemLoc.dma.inj h))
theorem kcell_injective : Function.Injective kcell := fun a b h => by
  have h1 : a.1 = b.1 := by injection h with h _; exact (Prod.mk.inj h).1
  have h2 : csem a.2 = csem b.2 := by injection h
  exact Prod.ext h1 (csem_injective h2)

/-! ### The body's semaphore terms -/

theorem sndInb (l : Fin 2) (j : Fin 4) (o : Fin 3) : ∀ a, (![l.val, j.val, o.val] : Fin 3 → Nat) a + S1x1x1.size a ≤ S2x4x3.size a := by
  revert l j o; decide
theorem rcvInb (l : Fin 2) (s j : Fin 4) : ∀ a, (![l.val, s.val, j.val] : Fin 3 → Nat) a + S1x1x1.size a ≤ S2x4x4.size a := by
  revert l s j; decide
theorem slotInb (j : Fin 4) : ∀ a, (![j.val] : Fin 1 → Nat) a + S1.size a ≤ S4.size a := by revert j; decide

theorem snd_sem₀ : ∀ (l : Fin 2) (j : Fin 4) (o : Fin 3),
    ((cc0_scratch3.slice (Rect.unit (s := S2x4x3) ![l.val, j.val, o.val] S1x1x1.size (sndInb l j o))).squeeze S_ squeezes_S1x1x1_S_).sem = sndS l j o := by
  decide +kernel
theorem rcv_sem₀ : ∀ (l : Fin 2) (s j : Fin 4),
    ((cc0_scratch4.slice (Rect.unit (s := S2x4x4) ![l.val, s.val, j.val] S1x1x1.size (rcvInb l s j))).squeeze S_ squeezes_S1x1x1_S_).sem = rcvS l s j := by
  decide +kernel
theorem srs_sem₀ : ∀ j : Fin 4,
    ((cc0_scratch5.slice (Rect.unit (s := S4) ![j.val] S1.size (slotInb j))).squeeze S_ squeezes_S1_S_).sem = srsS j := by decide +kernel
theorem rrs_sem₀ : ∀ s : Fin 4,
    ((cc0_scratch6.slice (Rect.unit (s := S4) ![s.val] S1.size (slotInb s))).squeeze S_ squeezes_S1_S_).sem = rrsS s := by decide +kernel

theorem snd_sem (l : Fin 2) (j : Fin 4) (o : Fin 3) {off : Fin 3 → Nat} (h : off = ![l.val, j.val, o.val]) (inb) (hs) :
    ((cc0_scratch3.slice (Rect.unit (s := S2x4x3) off S1x1x1.size inb)).squeeze S_ hs).sem = sndS l j o := by
  subst h; exact snd_sem₀ l j o
theorem rcv_sem (l : Fin 2) (s j : Fin 4) {off : Fin 3 → Nat} (h : off = ![l.val, s.val, j.val]) (inb) (hs) :
    ((cc0_scratch4.slice (Rect.unit (s := S2x4x4) off S1x1x1.size inb)).squeeze S_ hs).sem = rcvS l s j := by
  subst h; exact rcv_sem₀ l s j
theorem srs_sem (j : Fin 4) {off : Fin 1 → Nat} (h : off = ![j.val]) (inb) (hs) :
    ((cc0_scratch5.slice (Rect.unit (s := S4) off S1.size inb)).squeeze S_ hs).sem = srsS j := by
  subst h; exact srs_sem₀ j
theorem rrs_sem (s : Fin 4) {off : Fin 1 → Nat} (h : off = ![s.val]) (inb) (hs) :
    ((cc0_scratch6.slice (Rect.unit (s := S4) off S1.size inb)).squeeze S_ hs).sem = rrsS s := by
  subst h; exact rrs_sem₀ s

/-! ## The windows -/

abbrev bcM : Memref sig .tc .vmem S2x4x512x256 .bf16 := Memref.whole cc0_scratch0
abbrev ptM : Memref sig .tc .vmem S4x128x256 .bf16 := Memref.whole cc0_scratch1
abbrev rsM : Memref sig .tc .vmem S4x128x256 .bf16 := Memref.whole cc0_scratch2

/-- The corner of the window (layer, owner, chunk) of the broadcast buffer. -/
abbrev bcOff (l : Fin 2) (s : Fin 4) (j : Fin 4) : Fin 4 → Nat := ![l.val, s.val, 128 * j.val, 0]
/-- The corner of slot `j` of the last exchange's buffers. -/
abbrev ptOff (j : Fin 4) : Fin 3 → Nat := ![j.val, 0, 0]

theorem bcInb (l : Fin 2) (s j : Fin 4) : ∀ a, bcOff l s j a + S1x1x128x256.size a ≤ S2x4x512x256.size a := by
  intro a; fin_cases a <;> simp [bcOff, S1x1x128x256, S2x4x512x256] <;> omega
theorem ptInb (j : Fin 4) : ∀ a, ptOff j a + S1x128x256.size a ≤ S4x128x256.size a := by
  intro a; fin_cases a <;> simp [ptOff, S1x128x256, S4x128x256]; omega

abbrev bcR (l : Fin 2) (s j : Fin 4) : Rect S2x4x512x256 := Rect.unit (s := S2x4x512x256) (bcOff l s j) S1x1x128x256.size (bcInb l s j)
abbrev ptR (j : Fin 4) : Rect S4x128x256 := Rect.unit (s := S4x128x256) (ptOff j) S1x128x256.size (ptInb j)

abbrev bcW (l : Fin 2) (s j : Fin 4) : Memref sig .tc .vmem S128x256 .bf16 :=
  (bcM.slice (bcR l s j) (fun _ => rfl)).squeeze S128x256 squeezes_S1x1x128x256_S128x256
abbrev ptW (j : Fin 4) : Memref sig .tc .vmem S128x256 .bf16 :=
  (ptM.slice (ptR j) (fun _ => rfl)).squeeze S128x256 squeezes_S1x128x256_S128x256
abbrev rsW (j : Fin 4) : Memref sig .tc .vmem S128x256 .bf16 :=
  (rsM.slice (ptR j) (fun _ => rfl)).squeeze S128x256 squeezes_S1x128x256_S128x256

/-- The elements of each window. -/
def bcSet (l : Fin 2) (s j : Fin 4) : Finset S2x4x512x256.Idx := (bcR l s j).set
def ptSet (j : Fin 4) : Finset S4x128x256.Idx := (ptR j).set

theorem bcW_set (l : Fin 2) (s j : Fin 4) : (bcW l s j).view.set = bcSet l s j := by
  show (((View.whole cc0_scratch0).slice (bcR l s j)).reshape S128x256 _).set = _
  rw [View.set_reshape, View.set_slice_whole]; rfl
theorem ptW_set (j : Fin 4) : (ptW j).view.set = ptSet j := by
  show (((View.whole cc0_scratch1).slice (ptR j)).reshape S128x256 _).set = _
  rw [View.set_reshape, View.set_slice_whole]; rfl
theorem rsW_set (j : Fin 4) : (rsW j).view.set = ptSet j := by
  show (((View.whole cc0_scratch2).slice (ptR j)).reshape S128x256 _).set = _
  rw [View.set_reshape, View.set_slice_whole]; rfl

theorem mem_bcSet (l : Fin 2) (s j : Fin 4) (i : S2x4x512x256.Idx) :
    i ∈ bcSet l s j ↔ (i 0).val = l.val ∧ (i 1).val = s.val ∧ (i 2).val / 128 = j.val := by
  unfold bcSet
  rw [Rect.mem_set_unit]
  constructor
  · intro h
    have h0 := h 0; have h1 := h 1; have h2 := h 2
    simp [S1x1x128x256] at h0 h1 h2
    omega
  · rintro ⟨h0, h1, h2⟩ a
    have h3 : (i 3).val < 256 := (i 3).isLt
    fin_cases a <;> simp [S1x1x128x256] <;> omega
theorem mem_ptSet (j : Fin 4) (i : S4x128x256.Idx) : i ∈ ptSet j ↔ (i 0).val = j.val := by
  unfold ptSet
  rw [Rect.mem_set_unit]
  constructor
  · intro h
    have h0 := h 0
    simp [S1x128x256] at h0
    omega
  · intro h0 a
    have h1 : (i 1).val < 128 := (i 1).isLt
    have h2 : (i 2).val < 256 := (i 2).isLt
    fin_cases a <;> simp [S1x128x256] <;> omega

abbrev WX : Type := Fin 2 × Fin 4 × Fin 4

theorem bc_disjoint (t : WX) (_ : t ∈ (Finset.univ : Finset WX)) (t' : WX) (_ : t' ∈ (Finset.univ : Finset WX)) (h : t ≠ t') :
    Disjoint (bcSet t.1 t.2.1 t.2.2) (bcSet t'.1 t'.2.1 t'.2.2) := by
  rw [Finset.disjoint_left]
  intro i hi hi'
  rw [mem_bcSet] at hi hi'
  exact h (Prod.ext (Fin.ext (hi.1.symm.trans hi'.1)) (Prod.ext (Fin.ext (hi.2.1.symm.trans hi'.2.1)) (Fin.ext (hi.2.2.symm.trans hi'.2.2))))
theorem bc_cover : (Finset.univ : Finset WX).biUnion (fun t => bcSet t.1 t.2.1 t.2.2) = Finset.univ := by
  ext i
  have h2 : (i 2).val < 512 := (i 2).isLt
  simp only [Finset.mem_biUnion, Finset.mem_univ, true_and, iff_true]
  exact ⟨(⟨(i 0).val, (i 0).isLt⟩, ⟨(i 1).val, (i 1).isLt⟩, ⟨(i 2).val / 128, by omega⟩), (mem_bcSet _ _ _ _).2 ⟨rfl, rfl, rfl⟩⟩
theorem pt_disjoint (t : Fin 4) (_ : t ∈ (Finset.univ : Finset (Fin 4))) (t' : Fin 4) (_ : t' ∈ (Finset.univ : Finset (Fin 4))) (h : t ≠ t') :
    Disjoint (ptSet t) (ptSet t') := by
  rw [Finset.disjoint_left]
  intro i hi hi'
  rw [mem_ptSet] at hi hi'
  exact h (Fin.ext (hi.symm.trans hi'))
theorem pt_cover : (Finset.univ : Finset (Fin 4)).biUnion ptSet = Finset.univ := by
  ext i
  simp only [Finset.mem_biUnion, Finset.mem_univ, true_and, iff_true]
  exact ⟨⟨(i 0).val, (i 0).isLt⟩, (mem_ptSet _ _).2 rfl⟩

/-- The credit of one window's transfer, at any of the three buffers. -/
def N : ℕ := (bcW 0 0 0).view.dmaCredit
theorem N_pos : 0 < N := View.dmaCredit_pos _ (by decide)
theorem credit_bc (l : Fin 2) (s j : Fin 4) : (bcW l s j).view.dmaCredit = N := rfl
theorem credit_pt (j : Fin 4) : (ptW j).view.dmaCredit = N := rfl
theorem credit_rs (j : Fin 4) : (rsW j).view.dmaCredit = N := rfl

end Cert.K
-- ==== Proof.Contents.lean ====
/-
# What every buffer holds

The contents are explicit functions of the launch memory, so that each landing hands over named values:
`B0 s j` and `B1 s j` are chunk `j` of device `s`'s partial products of layers 0 and 1, `Part s j` its partial product
of layer 2 for device `j`, `Out c` the result on device `c`. `G` is what the broadcast buffer ends with (the same on
every device), `PT c` and `RS c` what device `c`'s two buffers of the last exchange end with.
-/
module

public import proofs.«01_k».proof.Proof.Cells

@[expose] public section

set_option synthInstance.maxSize 4096

noncomputable section

namespace Cert.K

open Cert.KernelIdeal Cert.KernelIdeal.Gen
open Idealize.ShloMosaic
open Idealize.ShloMosaic.TcCoe
open Idealize.SL.Sem
open Idealize.ShloMosaic.ValueIdx

variable {F : FTy → Type} [FloatOps F]

abbrev xM : Memref sig .tc .vmem S512x256 .f32 := Memref.whole cc0_stg0_0
abbrev w0M : Memref sig .tc .vmem S256x512 .f32 := Memref.whole cc0_stg1_0
abbrev u0M : Memref sig .tc .vmem S512x256 .f32 := Memref.whole cc0_stg2_0
abbrev w1M : Memref sig .tc .vmem S256x512 .f32 := Memref.whole cc0_stg3_0
abbrev u1M : Memref sig .tc .vmem S512x256 .f32 := Memref.whole cc0_stg4_0
abbrev w2M : Memref sig .tc .vmem S256x512 .f32 := Memref.whole cc0_stg5_0
abbrev u2M : Memref sig .tc .vmem S512x256 .f32 := Memref.whole cc0_stg6_0
abbrev oM : Memref sig .tc .vmem S128x256 .f32 := Memref.whole cc0_stg7_0

abbrev xOff (j : Fin 4) : Fin 2 → Nat := ![128 * j.val, 0]
theorem xInb (j : Fin 4) : ∀ a, xOff j a + S128x256.size a ≤ S512x256.size a := by revert j; decide
abbrev xR (j : Fin 4) : Rect S512x256 := Rect.unit (s := S512x256) (xOff j) S128x256.size (xInb j)

variable (m : (ℓ : Loc nD τ sig) → Buf (Elt F) ℓ)

/-- Device `c`'s inputs, as the staging buffers hold them. -/
def X (c : Dev nD) : (cc0_stg0_0 : Ref sig .tc).ty.Contents (Elt F) := (win0_0.blk (0 : Fin 1)).view.read (Elt F) (m ((c : Thread nD τ).loc main_arg0))
def W0 (c : Dev nD) : (cc0_stg1_0 : Ref sig .tc).ty.Contents (Elt F) := (win0_1.blk (0 : Fin 1)).view.read (Elt F) (m ((c : Thread nD τ).loc main_arg1))
def U0 (c : Dev nD) : (cc0_stg2_0 : Ref sig .tc).ty.Contents (Elt F) := (win0_2.blk (0 : Fin 1)).view.read (Elt F) (m ((c : Thread nD τ).loc main_arg4))
def W1 (c : Dev nD) : (cc0_stg3_0 : Ref sig .tc).ty.Contents (Elt F) := (win0_3.blk (0 : Fin 1)).view.read (Elt F) (m ((c : Thread nD τ).loc main_arg2))
def U1 (c : Dev nD) : (cc0_stg4_0 : Ref sig .tc).ty.Contents (Elt F) := (win0_4.blk (0 : Fin 1)).view.read (Elt F) (m ((c : Thread nD τ).loc main_arg5))
def W2 (c : Dev nD) : (cc0_stg5_0 : Ref sig .tc).ty.Contents (Elt F) := (win0_5.blk (0 : Fin 1)).view.read (Elt F) (m ((c : Thread nD τ).loc main_arg3))
def U2 (c : Dev nD) : (cc0_stg6_0 : Ref sig .tc).ty.Contents (Elt F) := (win0_6.blk (0 : Fin 1)).view.read (Elt F) (m ((c : Thread nD τ).loc main_arg6))

/-- Rows `128 j` to `128 j + 127` of `x`. -/
def Xc (c : Dev nD) (j : Fin 4) : Vec F S128x256 .f32 := (xM.access (xR j)).read (Elt F) (X m c)

/-- A sum of the four devices' blocks in the order device `c` takes it, less the last summand. -/
def acc3 (B : Dev nD → Fin 4 → FVec F S1x1x128x256 .bf16) (c : Dev nD) (j : Fin 4) : FVec F S128x256 .f32 :=
  k0_pay8 (k0_pay7 (k0_pay6 (B c j)) (B (peer c 0) j)) (B (peer c 2) j)

def B0 (c : Dev nD) (j : Fin 4) : FVec F S1x1x128x256 .bf16 := k0_pay1 (Xc m c j) (W0 m c) (U0 m c)
def B1 (c : Dev nD) (j : Fin 4) : FVec F S1x1x128x256 .bf16 := k0_pay9 (acc3 (B0 m) c j) (B0 m (peer c 1) j) (W1 m c) (U1 m c)
def Part (c : Dev nD) (j : Fin 4) : FVec F S1x128x256 .bf16 := k0_pay25 (acc3 (B1 m) c j) (B1 m (peer c 1) j) (W2 m c) (U2 m c)
def Out (c : Dev nD) : FVec F S128x256 .f32 :=
  k0_pay40 (k0_pay39 (k0_pay38 (Part m c c)) (Part m (peer c 0) c)) (Part m (peer c 2) c) (Part m (peer c 1) c)

def Bv (l : Fin 2) (s j : Fin 4) : FVec F S1x1x128x256 .bf16 := if l = 0 then B0 m s j else B1 m s j
theorem Bv_zero (s j : Fin 4) : Bv m 0 s j = B0 m s j := if_pos rfl
theorem Bv_one (s j : Fin 4) : Bv m 1 s j = B1 m s j := if_neg (by decide)

/-- What the broadcast buffer ends with, on every device. -/
def G : (cc0_scratch0 : Ref sig .tc).ty.Contents (Elt F) := fun i =>
  Bv m ⟨(i 0).val, (i 0).isLt⟩ ⟨(i 1).val, (i 1).isLt⟩ ⟨(i 2).val / 128, by have h : (i 2).val < 512 := (i 2).isLt; omega⟩
    (ix4 (0 : Fin 1) (0 : Fin 1) (⟨(i 2).val % 128, Nat.mod_lt _ (by decide)⟩ : Fin 128) (⟨(i 3).val, (i 3).isLt⟩ : Fin 256))
/-- What device `c`'s own partial products of layer 2 end with. -/
def PT (c : Dev nD) : (cc0_scratch1 : Ref sig .tc).ty.Contents (Elt F) := fun i =>
  Part m c ⟨(i 0).val, (i 0).isLt⟩ (ix3 (0 : Fin 1) (⟨(i 1).val, (i 1).isLt⟩ : Fin 128) (⟨(i 2).val, (i 2).isLt⟩ : Fin 256))
/-- What the landing buffer of the last exchange ends with on device `c`. -/
def RS (c : Dev nD) : (cc0_scratch2 : Ref sig .tc).ty.Contents (Elt F) := fun i =>
  Part m ⟨(i 0).val, (i 0).isLt⟩ c (ix3 (0 : Fin 1) (⟨(i 1).val, (i 1).isLt⟩ : Fin 128) (⟨(i 2).val, (i 2).isLt⟩ : Fin 256))

theorem G_emb (l : Fin 2) (s j : Fin 4) (x : S1x1x128x256.Idx) : G m ((bcR l s j).emb x) = Bv m l s j x := by
  have h0 : (x 0).val < 1 := (x 0).isLt
  have h1 : (x 1).val < 1 := (x 1).isLt
  have h2 : (x 2).val < 128 := (x 2).isLt
  have e0 : ((bcR l s j).emb x 0).val = l.val := by
    rw [Rect.emb_apply]; show l.val + 1 * (x 0).val = _; omega
  have e1 : ((bcR l s j).emb x 1).val = s.val := by
    rw [Rect.emb_apply]; show s.val + 1 * (x 1).val = _; omega
  have e2 : ((bcR l s j).emb x 2).val = 128 * j.val + (x 2).val := by
    rw [Rect.emb_apply]; show 128 * j.val + 1 * (x 2).val = _; omega
  have e3 : ((bcR l s j).emb x 3).val = (x 3).val := by
    rw [Rect.emb_apply]; show 0 + 1 * (x 3).val = _; omega
  unfold G
  have a0 : (⟨((bcR l s j).emb x 0).val, ((bcR l s j).emb x 0).isLt⟩ : Fin 2) = l := Fin.ext e0
  have a1 : (⟨((bcR l s j).emb x 1).val, ((bcR l s j).emb x 1).isLt⟩ : Fin 4) = s := Fin.ext e1
  have a2 (h) : (⟨((bcR l s j).emb x 2).val / 128, h⟩ : Fin 4) = j := Fin.ext (by show _ / 128 = j.val; rw [e2]; omega)
  rw [a0, a1, a2]
  congr 1
  funext a
  fin_cases a
  · exact Fin.ext (by show 0 = (x 0).val; omega)
  · exact Fin.ext (by show 0 = (x 1).val; omega)
  · exact Fin.ext (by show ((bcR l s j).emb x 2).val % 128 = (x 2).val; rw [e2]; omega)
  · exact Fin.ext e3

theorem PT_emb (c : Dev nD) (j : Fin 4) (x : S1x128x256.Idx) : PT m c ((ptR j).emb x) = Part m c j x := by
  have h0 : (x 0).val < 1 := (x 0).isLt
  have e0 : ((ptR j).emb x 0).val = j.val := by
    rw [Rect.emb_apply]; show j.val + 1 * (x 0).val = _; omega
  have e1 : ((ptR j).emb x 1).val = (x 1).val := by
    rw [Rect.emb_apply]; show 0 + 1 * (x 1).val = _; omega
  have e2 : ((ptR j).emb x 2).val = (x 2).val := by
    rw [Rect.emb_apply]; show 0 + 1 * (x 2).val = _; omega
  unfold PT
  have a0 : (⟨((ptR j).emb x 0).val, ((ptR j).emb x 0).isLt⟩ : Fin 4) = j := Fin.ext e0
  rw [a0]
  congr 1
  funext a
  fin_cases a
  · exact Fin.ext (by show 0 = (x 0).val; omega)
  · exact Fin.ext e1
  · exact Fin.ext e2
theorem RS_emb (c : Dev nD) (s : Fin 4) (x : S1x128x256.Idx) : RS m c ((ptR s).emb x) = Part m s c x := by
  have h0 : (x 0).val < 1 := (x 0).isLt
  have e0 : ((ptR s).emb x 0).val = s.val := by
    rw [Rect.emb_apply]; show s.val + 1 * (x 0).val = _; omega
  have e1 : ((ptR s).emb x 1).val = (x 1).val := by
    rw [Rect.emb_apply]; show 0 + 1 * (x 1).val = _; omega
  have e2 : ((ptR s).emb x 2).val = (x 2).val := by
    rw [Rect.emb_apply]; show 0 + 1 * (x 2).val = _; omega
  unfold RS
  have a0 : (⟨((ptR s).emb x 0).val, ((ptR s).emb x 0).isLt⟩ : Fin 4) = s := Fin.ext e0
  rw [a0]
  congr 1
  funext a
  fin_cases a
  · exact Fin.ext (by show 0 = (x 0).val; omega)
  · exact Fin.ext e1
  · exact Fin.ext e2

/-- An element of a window is the image of an index of its rectangle. -/
theorem bc_pre {l : Fin 2} {s j : Fin 4} {i : S2x4x512x256.Idx} (h : i ∈ bcSet l s j) : ∃ x : S1x1x128x256.Idx, (bcR l s j).emb x = i := by
  unfold bcSet at h
  rw [← Rect.map_emb_univ] at h
  obtain ⟨x, -, e⟩ := Finset.mem_map.mp h
  exact ⟨x, e⟩
theorem pt_pre {j : Fin 4} {i : S4x128x256.Idx} (h : i ∈ ptSet j) : ∃ x : S1x128x256.Idx, (ptR j).emb x = i := by
  unfold ptSet at h
  rw [← Rect.map_emb_univ] at h
  obtain ⟨x, -, e⟩ := Finset.mem_map.mp h
  exact ⟨x, e⟩

/-- Loads of a window. -/
theorem load_bc (l : Fin 2) (s j : Fin 4) : (bcM.access (bcR l s j)).read (Elt F) (G m) = Bv m l s j := funext fun x => G_emb m l s j x
theorem load_pt (c : Dev nD) (j : Fin 4) : (ptM.access (ptR j)).read (Elt F) (PT m c) = Part m c j := funext fun x => PT_emb m c j x
theorem load_rs (c : Dev nD) (s : Fin 4) : (rsM.access (ptR s)).read (Elt F) (RS m c) = Part m s c := funext fun x => RS_emb m c s x

/-- Stores of a window. -/
theorem store_bc (l : Fin 2) (s j : Fin 4) (f : (cc0_scratch0 : Ref sig .tc).ty.Contents (Elt F)) :
    ∀ i ∈ bcSet l s j, (bcM.access (bcR l s j)).write (Elt F) f (Bv m l s j) Finset.univ i = G m i := by
  intro i hi
  obtain ⟨x, rfl⟩ := bc_pre hi
  rw [G_emb]
  exact View.write_emb_of_mem (v := bcM.access (bcR l s j)) f (Bv m l s j) (Finset.mem_univ x)
theorem store_pt (c : Dev nD) (j : Fin 4) (f : (cc0_scratch1 : Ref sig .tc).ty.Contents (Elt F)) :
    ∀ i ∈ ptSet j, (ptM.access (ptR j)).write (Elt F) f (Part m c j) Finset.univ i = PT m c i := by
  intro i hi
  obtain ⟨x, rfl⟩ := pt_pre hi
  rw [PT_emb]
  exact View.write_emb_of_mem (v := ptM.access (ptR j)) f (Part m c j) (Finset.mem_univ x)

/-- Landings: a broadcast lands on the window it left. -/
theorem land_bc (l : Fin 2) (s j : Fin 4) (fd : (cc0_scratch0 : Ref sig .tc).ty.Contents (Elt F)) :
    ∀ i ∈ bcSet l s j, (bcW l s j).view.write (Elt F) fd ((bcW l s j).view.read (Elt F) (G m)) Finset.univ i = G m i := by
  intro i hi
  rw [View.write_read_eq_piecewise, Finset.piecewise_eq_of_mem]
  rw [View.setOn_univ, bcW_set]; exact hi
/-- Slot `j` of the sender's partial products lands on the sender's slot of device `j`. -/
theorem land_rs (c j : Dev nD) (fd : (cc0_scratch2 : Ref sig .tc).ty.Contents (Elt F)) :
    ∀ i ∈ ptSet c, (rsW c).view.write (Elt F) fd ((ptW j).view.read (Elt F) (PT m c)) Finset.univ i = RS m j i := by
  intro i hi
  rw [← rsW_set, View.set] at hi
  obtain ⟨x, -, rfl⟩ := Finset.mem_map.mp hi
  rw [View.write_emb_of_mem _ _ (Finset.mem_univ x)]
  show PT m c ((ptR j).emb (Shape.reshapeEquiv _ x)) = RS m j ((ptR c).emb (Shape.reshapeEquiv _ x))
  rw [PT_emb, RS_emb]

end Cert.K
-- ==== Proof.Sched.lean ====
/-
# The schedule: who pays which cell, how much, and what each payment hands over

Everything happens in round 0, and every duty is named by the device that pays it.

* The barrier cell of `e` is paid one unit by each other device `s`; the payment hands `e` the windows of `s` that `e`
  will write: `s`'s copies of `e`'s eight broadcast windows and `s`'s landing slot for `e` in the last exchange.
* The receive cell (layer, sender, chunk) of `e` is paid by the sender's transfer, which hands over the window at `G`.
* The send cell (layer, chunk, peer) of `c` is paid by `c`'s own transfer, which hands back the share of the window
  that the transfer borrowed: three transfers and the kernel's own loads read a window at the same time.
* The cells of the last exchange likewise, with the slots of the two buffers.

The levels: send cells and the staging semaphores 0, barrier 1, receive cells of layer 0 2, of layer 1 3, of the last
exchange 4. A device waits only below everything it still owes.
-/
module

public import proofs.«01_k».proof.Proof.Contents

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Windows held -/

def bcP (c : Dev nD) (l : Fin 2) (s j : Fin 4) (q : PosShare TreeShare) (f : (cc0_scratch0 : Ref sig .tc).ty.Contents (Elt F)) : sProp 𝕄 :=
  ((c : Thread nD τ).loc cc0_scratch0) ↦[bcSet l s j]{q} f
def ptP (c : Dev nD) (j : Fin 4) (f : (cc0_scratch1 : Ref sig .tc).ty.Contents (Elt F)) : sProp 𝕄 :=
  ((c : Thread nD τ).loc cc0_scratch1) ↦[ptSet j]{fullShare} f
def rsP (c : Dev nD) (s : Fin 4) (f : (cc0_scratch2 : Ref sig .tc).ty.Contents (Elt F)) : sProp 𝕄 :=
  ((c : Thread nD τ).loc cc0_scratch2) ↦[ptSet s]{fullShare} f

/-- The share a device keeps of a window it broadcasts, and the three it lends. -/
def shK : PosShare TreeShare := fullShare.left
def sh (o : Fin 3) : PosShare TreeShare :=
  match o with
  | 0 => fullShare.right.left
  | 1 => fullShare.right.right.left
  | 2 => fullShare.right.right.right

theorem bcP_split (c : Dev nD) (l : Fin 2) (s j : Fin 4) (f) :
    (bcP c l s j fullShare f : sProp 𝕄) ⊣⊢ iprop(bcP c l s j shK f ∗ bcP c l s j (sh 0) f ∗ bcP c l s j (sh 1) f ∗ bcP c l s j (sh 2) f) := by
  have h1 := pointsTo_share (Ix := Unit) (Name := ℕ) (U := UU) (Lvl := ℕ) (ℓ := (c : Thread nD τ).loc cc0_scratch0) (I := bcSet l s j) (f := f)
    (PosShare.mem_left_op_right fullShare)
  have h2 := pointsTo_share (Ix := Unit) (Name := ℕ) (U := UU) (Lvl := ℕ) (ℓ := (c : Thread nD τ).loc cc0_scratch0) (I := bcSet l s j) (f := f)
    (PosShare.mem_left_op_right fullShare.right)
  have h3 := pointsTo_share (Ix := Unit) (Name := ℕ) (U := UU) (Lvl := ℕ) (ℓ := (c : Thread nD τ).loc cc0_scratch0) (I := bcSet l s j) (f := f)
    (PosShare.mem_left_op_right fullShare.right.right)
  exact ⟨h1.1.trans (sep_mono_right (h2.1.trans (sep_mono_right h3.1))), (sep_mono_right ((sep_mono_right h3.2).trans h2.2)).trans h1.2⟩

/-- What device `s` hands device `e` at the barrier: the windows of `s` that `e` writes. -/
def land (s e : Dev nD) : sProp 𝕄 :=
  iprop((bigSep (Finset.univ : Finset (Fin 2 × Fin 4)) fun lj => iprop(∃ f, bcP s lj.1 e lj.2 fullShare f)) ∗ ∃ f, rsP s e f)

omit [FloatOps F] in
instance bcP_storable (c l s j q f) : BI.Storable (upEmb : UEmb _ 𝕄) (bcP (F := F) c l s j q f) := by unfold bcP; infer_instance
omit [FloatOps F] in
instance ptP_storable (c j f) : BI.Storable (upEmb : UEmb _ 𝕄) (ptP (F := F) c j f) := by unfold ptP; infer_instance
omit [FloatOps F] in
instance rsP_storable (c s f) : BI.Storable (upEmb : UEmb _ 𝕄) (rsP (F := F) c s f) := by unfold rsP; infer_instance
omit [FloatOps F] in
instance land_storable (s e) : BI.Storable (upEmb : UEmb _ 𝕄) (land (F := F) s e) := by unfold land; infer_instance

/-! ## The schedule -/

/-- The devices that pay device `e`'s cell of a kind. -/
def dutiesK (e : Dev nD) : KX → Finset (Fin 4)
  | .inl _ => {e}
  | .inr (.inl (_, s, _)) => if s = e then ∅ else {s}
  | .inr (.inr (.inl j)) => if j = e then ∅ else {e}
  | .inr (.inr (.inr s)) => if s = e then ∅ else {s}

def payK (e : Dev nD) : KX → sProp 𝕄
  | .inl (l, j, o) => bcP e l e j (sh o) (G m)
  | .inr (.inl (l, s, j)) => bcP e l s j fullShare (G m)
  | .inr (.inr (.inl j)) => ptP e j (PT m e)
  | .inr (.inr (.inr s)) => rsP e s (RS m e)

instance payK_storable (e k) : BI.Storable (upEmb : UEmb _ 𝕄) (payK m e k) := by
  rcases k with ⟨l, j, o⟩ | ⟨l, s, j⟩ | j | s <;> (unfold payK; infer_instance)

def dutiesS (e : Dev nD) : SemLoc sig → Finset (Fin 4)
  | .reg s => if s = barS then Finset.univ.erase e else ∅
  | .dma q => match kindD q with
    | .inl _ => ∅
    | .inr k => dutiesK e k
def amountS : SemLoc sig → ℕ
  | .reg _ => 1
  | .dma _ => N
def payS (e : Dev nD) (d : Fin 4) : SemLoc sig → sProp 𝕄
  | .reg _ => land d e
  | .dma q => match kindD q with
    | .inl _ => iprop(emp)
    | .inr k => payK m e k

def sched : Rounds.Schedule (GSem nD τ sig) (Fin 4) 𝕄 where
  duties g r := if r = 0 ∧ g.1.2 = .tc then dutiesS g.1.1 g.2 else ∅
  unitless _ := False
  amount g _ _ := amountS g.2
  payload g _ d := payS m g.1.1 d g.2
  amount_pos g _ _ _ := by
    cases g.2 with
    | reg s => exact Nat.one_pos
    | dma q => exact N_pos

instance sched_storable (g : GSem nD τ sig) (r : ℕ) (d : Fin 4) : BI.Storable (upEmb : UEmb _ 𝕄) ((sched m).payload g r d) := by
  show BI.Storable upEmb (payS m g.1.1 d g.2)
  unfold payS
  split
  · infer_instance
  · split <;> infer_instance

theorem duties_later (g : GSem nD τ sig) : ∀ r, 1 ≤ r → (sched m).duties g r = ∅ :=
  fun r hr => if_neg fun h => by omega

theorem duties_bar (e : Dev nD) : (sched m).duties (barCell e) 0 = Finset.univ.erase e := by
  dsimp only [sched]; rw [if_pos ⟨rfl, rfl⟩]; unfold dutiesS; exact if_pos rfl
theorem duties_k (e : Dev nD) (k : KX) : (sched m).duties (cellD e (odma k)) 0 = dutiesK e k := by
  dsimp only [sched]; rw [if_pos ⟨rfl, rfl⟩]
  unfold dutiesS
  simp only [kindD_odma]
theorem payload_k (e : Dev nD) (k : KX) (d : Fin 4) : (sched m).payload (cellD e (odma k)) 0 d = payK m e k := by
  show payS m e d (.dma (odma k)) = _
  unfold payS
  simp only [kindD_odma]
theorem payload_bar (e : Dev nD) (d : Fin 4) : (sched m).payload (barCell e) 0 d = land d e := rfl
theorem amount_bar (e : Dev nD) (d : Fin 4) : (sched m).amount (barCell e) 0 d = 1 := rfl
theorem amount_k (e : Dev nD) (q : DmaSem sig) (d : Fin 4) : (sched m).amount (cellD e q) 0 d = N := rfl

theorem expect_bar (e : Dev nD) : (sched m).expect (barCell e) 0 = 3 := by
  unfold Schedule.expect Schedule.amountOf
  rw [duties_bar, Finset.sum_congr rfl fun d _ => amount_bar m e d, Finset.sum_const, Finset.card_erase_of_mem (Finset.mem_univ _), Finset.card_univ,
    Fintype.card_fin, smul_eq_mul]
/-- A cell that one device pays expects one window's credit. -/
theorem expect_k (e : Dev nD) (k : KX) {d : Fin 4} (h : dutiesK e k = {d}) : (sched m).expect (cellD e (odma k)) 0 = N := by
  unfold Schedule.expect Schedule.amountOf
  rw [duties_k, h, Finset.sum_singleton, amount_k]
theorem rest_k (e : Dev nD) (k : KX) {d : Fin 4} (h : dutiesK e k = {d}) :
    bigSep ((sched m).duties (cellD e (odma k)) 0 \ ∅) (fun d => (sched m).payload (cellD e (odma k)) 0 d) = payK m e k := by
  rw [Finset.sdiff_empty, duties_k, h, bigSep_singleton, payload_k]
/-- The rest of the barrier's round: what the three others hand over. -/
theorem rest_bar (e : Dev nD) :
    bigSep ((sched m).duties (barCell e) 0 \ ∅) (fun d => (sched m).payload (barCell e) 0 d) = bigSep (Finset.univ.erase e) fun s => (land s e : sProp 𝕄) := by
  rw [Finset.sdiff_empty, duties_bar]; rfl

/-! ## Levels -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvK : KX → ℕ
  | .inl _ => 0
  | .inr (.inl (l, _, _)) => 2 + l.val
  | .inr (.inr (.inl _)) => 0
  | .inr (.inr (.inr _)) => 4
def lvS : SemLoc sig → ℕ
  | .reg _ => 1
  | .dma q => match kindD q with
    | .inl _ => 0
    | .inr k => lvK k
def lv (g : GSem nD τ sig) (_ : Unit) : ℕ := lvS g.2

theorem lvS_odma (k : KX) : lvS (.dma (odma k)) = lvK k := by unfold lvS; simp only [kindD_odma]

/-! ## Dues: what a device still owes, in the order it pays -/

/-- The tallies of a list of dues. -/
def tal : List (GSem nD τ sig × ℕ) → CellTallies nD τ sig Unit
  | [] => 0
  | x :: xs => tal xs + tallyAt x.1 () x.2

/-- The receive cells that the broadcast of chunk `j` of layer `l` pays. -/
def dueB (c : Dev nD) (l : Fin 2) (j : Fin 4) : List (GSem nD τ sig × ℕ) :=
  [(cellD (peer c 1) (rcvS l c j), N), (cellD (peer c 0) (rcvS l c j), N), (cellD (peer c 2) (rcvS l c j), N)]
/-- The receive cell that slot `j` of the last exchange pays. -/
def dueR (c : Dev nD) (j : Fin 4) : List (GSem nD τ sig × ℕ) := if j = c then [] else [(cellD j (rrsS c), N)]
def dueBar (c : Dev nD) : List (GSem nD τ sig × ℕ) := [(barCell (peer c 0), 1), (barCell (peer c 1), 1), (barCell (peer c 2), 1)]

def R3 (c : Dev nD) := dueR c 3 ++ []
def R2 (c : Dev nD) := dueR c 2 ++ R3 c
def R1 (c : Dev nD) := dueR c 1 ++ R2 c
def R0 (c : Dev nD) := dueR c 0 ++ R1 c
def D13 (c : Dev nD) := dueB c 1 3 ++ R0 c
def D12 (c : Dev nD) := dueB c 1 2 ++ D13 c
def D11 (c : Dev nD) := dueB c 1 1 ++ D12 c
def D10 (c : Dev nD) := dueB c 1 0 ++ D11 c
def D03 (c : Dev nD) := dueB c 0 3 ++ D10 c
def D02 (c : Dev nD) := dueB c 0 2 ++ D03 c
def D01 (c : Dev nD) := dueB c 0 1 ++ D02 c
def D00 (c : Dev nD) := dueB c 0 0 ++ D01 c
def dues (c : Dev nD) := dueBar c ++ D00 c

/-- Every due of the list is a TensorCore cell of a level above `n`. -/
def Above (n : ℕ) (l : List (GSem nD τ sig × ℕ)) : Prop := ∀ p ∈ l, p.1.1.2 = .tc ∧ n < lvS p.1.2

theorem above_nil (n : ℕ) : Above n [] := fun _ h => by cases h
theorem above_append {n : ℕ} {l l' : List (GSem nD τ sig × ℕ)} (h : Above n l) (h' : Above n l') : Above n (l ++ l') :=
  fun p hp => (List.mem_append.mp hp).elim (h p) (h' p)
theorem above_dueB (c : Dev nD) (l : Fin 2) (j : Fin 4) {n : ℕ} (h : n < 2 + l.val) : Above n (dueB c l j) := by
  intro p hp
  have e : lvS (.dma (rcvS l c j)) = 2 + l.val := lvS_odma (.inr (.inl (l, c, j)))
  simp only [dueB, List.mem_cons, List.not_mem_nil, or_false] at hp
  rcases hp with rfl | rfl | rfl <;> exact ⟨rfl, by rw [e]; exact h⟩
theorem above_dueR (c : Dev nD) (j : Fin 4) {n : ℕ} (h : n < 4) : Above n (dueR c j) := by
  intro p hp
  have e : lvS (.dma (rrsS c)) = 4 := lvS_odma (.inr (.inr (.inr c)))
  unfold dueR at hp
  split at hp
  · cases hp
  · rw [List.mem_singleton] at hp; subst hp; exact ⟨rfl, by rw [e]; exact h⟩
theorem above_dueBar (c : Dev nD) : Above 0 (dueBar c) := by
  intro p hp
  simp only [dueBar, List.mem_cons, List.not_mem_nil, or_false] at hp
  rcases hp with rfl | rfl | rfl <;> exact ⟨rfl, Nat.one_pos⟩

theorem above_R3 (c : Dev nD) {n} (h : n < 4) : Above n (R3 c) := above_append (above_dueR c 3 h) (above_nil n)
theorem above_R2 (c : Dev nD) {n} (h : n < 4) : Above n (R2 c) := above_append (above_dueR c 2 h) (above_R3 c h)
theorem above_R1 (c : Dev nD) {n} (h : n < 4) : Above n (R1 c) := above_append (above_dueR c 1 h) (above_R2 c h)
theorem above_R0 (c : Dev nD) {n} (h : n < 4) : Above n (R0 c) := above_append (above_dueR c 0 h) (above_R1 c h)
theorem above_D13 (c : Dev nD) {n} (h : n < 3) : Above n (D13 c) := above_append (above_dueB c 1 3 h) (above_R0 c (by omega))
theorem above_D12 (c : Dev nD) {n} (h : n < 3) : Above n (D12 c) := above_append (above_dueB c 1 2 h) (above_D13 c h)
theorem above_D11 (c : Dev nD) {n} (h : n < 3) : Above n (D11 c) := above_append (above_dueB c 1 1 h) (above_D12 c h)
theorem above_D10 (c : Dev nD) {n} (h : n < 3) : Above n (D10 c) := above_append (above_dueB c 1 0 h) (above_D11 c h)
theorem above_D03 (c : Dev nD) {n} (h : n < 2) : Above n (D03 c) := above_append (above_dueB c 0 3 h) (above_D10 c (by omega))
theorem above_D02 (c : Dev nD) {n} (h : n < 2) : Above n (D02 c) := above_append (above_dueB c 0 2 h) (above_D03 c h)
theorem above_D01 (c : Dev nD) {n} (h : n < 2) : Above n (D01 c) := above_append (above_dueB c 0 1 h) (above_D02 c h)
theorem above_D00 (c : Dev nD) {n} (h : n < 2) : Above n (D00 c) := above_append (above_dueB c 0 0 h) (above_D01 c h)
theorem above_dues (c : Dev nD) : Above 0 (dues c) := above_append (above_dueBar c) (above_D00 c (by omega))

theorem tal_pos : ∀ {l : List (GSem nD τ sig × ℕ)} {g : GSem nD τ sig} {u : Unit}, 0 < tal l g u → ∃ p ∈ l, g = p.1
  | [], g, u, h => absurd h (Nat.lt_irrefl 0)
  | x :: xs, g, u, h => by
    unfold tal at h
    rw [Pi.add_apply, Finsupp.add_apply, tallyAt_apply] at h
    by_cases hx : g = x.1 ∧ u = ()
    · exact ⟨x, List.mem_cons_self, hx.1⟩
    · rw [if_neg hx, Nat.add_zero] at h
      obtain ⟨p, hp, e⟩ := tal_pos h
      exact ⟨p, List.mem_cons_of_mem _ hp, e⟩

/-- A device may wait at a cell whose level is below everything it still owes. -/
theorem mayWait (c : Dev nD) (sm : SemLoc sig) {n : ℕ} (hn : lvS sm ≤ n) {l : List (GSem nD τ sig × ℕ)} (h : Above n l) :
    (levAts L lv : sProp 𝕄) ⊢ MayWait (c : Thread nD τ) sm () (tal l) :=
  MayOwe.of_cut (L := L) (lev := lv) n (fun p hp => by rw [Finset.mem_singleton.mp hp, L_tc]; exact Finset.mem_singleton_self _)
    (fun g u hg => by
      obtain ⟨p, hp, rfl⟩ := tal_pos hg
      unfold L; rw [if_pos (h p hp).1]; exact Finset.mem_singleton_self _)
    (fun p hp => by rw [Finset.mem_singleton.mp hp]; exact hn)
    (fun g u hg => by
      obtain ⟨p, hp, rfl⟩ := tal_pos hg
      exact (h p hp).2)

/-- What device `c` still owes, whatever it has waited for. -/
def owesL (c : Dev nD) (l : List (GSem nD τ sig × ℕ)) : sProp 𝕄 := iprop(∃ W, owes (c : Thread nD τ) (tal l) W)

end Cert.K
-- ==== Proof.Steps.lean ====
/-
# The body's operations, one rule per kind

Each rule is stated in the words of the protocol (a window, a cell, what is still owed) for any offset, semaphore and
device that equal the named ones, so that one proof serves every place of the body where the operation stands.
-/
module

public import proofs.«01_k».proof.Proof.Sched

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CX → ℕ)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows: the cells' invariants, that each has reached round 0, the levels -/

def env : sProp 𝕄 :=
  iprop((bigSep Finset.univ fun ck : Dev nD × CX => cellInv ER (sched m) (K ck) (kcell ck))
    ∗ (bigSep Finset.univ fun ck : Dev nD × CX => reached ER (kcell ck) 0) ∗ levAts L lv)

instance env_persistent : BI.Persistent (env m K) := by unfold env; infer_instance

omit [FloatOps F] in
theorem reached_at (ck : Dev nD × CX) :
    (bigSep Finset.univ fun ck : Dev nD × CX => (reached ER (kcell ck) 0 : sProp 𝕄)) ⊢ reached ER (kcell ck) 0 :=
  bigSep_elim (Finset.mem_univ ck)
theorem inv_at (ck : Dev nD × CX) :
    (bigSep Finset.univ fun ck : Dev nD × CX => (cellInv ER (sched m) (K ck) (kcell ck) : sProp 𝕄)) ⊢ cellInv ER (sched m) (K ck) (kcell ck) :=
  bigSep_elim (Finset.mem_univ ck)

theorem env_inv (ck : Dev nD × CX) : env m K ⊢ cellInv ER (sched m) (K ck) (kcell ck) := by
  unfold env
  iintro ⟨H, -, -⟩
  iapply (inv_at m K ck) $$ H
theorem env_reached (ck : Dev nD × CX) : env m K ⊢ reached ER (kcell ck) 0 := by
  unfold env
  iintro ⟨-, H, -⟩
  iapply (reached_at ck) $$ H
theorem env_lev : env m K ⊢ levAts L lv := by
  unfold env
  iintro ⟨-, -, H⟩
  iexact H

/-- Three, four and eight of a kind: by peer, by chunk, by layer and chunk. -/
def tri (P : Fin 3 → sProp 𝕄) : sProp 𝕄 := iprop(P 0 ∗ P 1 ∗ P 2)
def quad (P : Fin 4 → sProp 𝕄) : sProp 𝕄 := iprop(P 0 ∗ P 1 ∗ P 2 ∗ P 3)
def oct (P : Fin 2 → Fin 4 → sProp 𝕄) : sProp 𝕄 :=
  iprop(P 0 0 ∗ P 0 1 ∗ P 0 2 ∗ P 0 3 ∗ P 1 0 ∗ P 1 1 ∗ P 1 2 ∗ P 1 3)

/-! ## Windows as the body spells them -/

theorem bcW_of {l : Fin 2} {s j : Fin 4} {off : Fin 4 → Nat} (h : off = bcOff l s j) (inb : ∀ a, off a + S1x1x128x256.size a ≤ S2x4x512x256.size a) (h1) (h2) :
    (bcM.slice (Rect.unit (s := S2x4x512x256) off S1x1x128x256.size inb) h1).squeeze S128x256 h2 = bcW l s j := by subst h; rfl
theorem ptW_of {j : Fin 4} {off : Fin 3 → Nat} (h : off = ptOff j) (inb : ∀ a, off a + S1x128x256.size a ≤ S4x128x256.size a) (h1) (h2) :
    (ptM.slice (Rect.unit (s := S4x128x256) off S1x128x256.size inb) h1).squeeze S128x256 h2 = ptW j := by subst h; rfl
theorem rsW_of {j : Fin 4} {off : Fin 3 → Nat} (h : off = ptOff j) (inb : ∀ a, off a + S1x128x256.size a ≤ S4x128x256.size a) (h1) (h2) :
    (rsM.slice (Rect.unit (s := S4x128x256) off S1x128x256.size inb) h1).squeeze S128x256 h2 = rsW j := by subst h; rfl

/-! ## Loads and stores -/

section Local
variable (c : Dev nD) {α : Type}

theorem hz2 : (![0, 0] : Fin 2 → Nat) = fun _ => 0 := funext fun a => by fin_cases a <;> rfl

/-- A load of a whole staging buffer. -/
theorem wp_load_stage {Φ : α → sProp 𝕄} {cs : CoreSpace} {S : Shape} {e : EltTy} {mm : Memref sig .tc cs S e} {r : LoadRect S} {hl : mm.view.LoadsAt r}
    {k : (r.shape.Idx → Elt F e) → Prog (TpuEff nD τ sig (Elt F) Λ₀ .tc) α} {f : Buf (Elt F) (mm.view.loc (c : Thread nD τ))}
    {v : r.shape.Idx → Elt F e} (hv : mm.view.readAt (Elt F) r f = v) :
    (mm.view.loc (c : Thread nD τ) ↦{fullShare} f : sProp 𝕄)
      ⊢ iprop(((mm.view.loc (c : Thread nD τ) ↦{fullShare} f) -∗ WP c (k v) Φ) -∗ WP c (.op (.load mm r hl) k) Φ) := by
  subst hv
  exact wp_load 𝒱₀ (c : Thread nD τ) none Set.univ (m := mm) (Finset.subset_univ _)

theorem wp_load_bc {Φ : α → sProp 𝕄} (l : Fin 2) (s j : Fin 4) (q : PosShare TreeShare) {off : Fin 4 → Nat} (h : off = bcOff l s j)
    {inb : ∀ a, off a + S1x1x128x256.size a ≤ S2x4x512x256.size a} {hl}
    {k : (S1x1x128x256.Idx → Elt F .bf16) → Prog (TpuEff nD τ sig (Elt F) Λ₀ .tc) α} :
    (bcP c l s j q (G m) : sProp 𝕄)
      ⊢ iprop((bcP c l s j q (G m) -∗ WP c (k (Bv m l s j)) Φ)
          -∗ WP c (.op (.load bcM (Rect.unit (s := S2x4x512x256) off S1x1x128x256.size inb).toLoadRect hl) k) Φ) := by
  subst h
  rw [← load_bc m l s j]
  unfold bcP
  exact wp_load_rect 𝒱₀ (c : Thread nD τ) none Set.univ (m := bcM) (r := bcR l s j) (f := G m) (S := bcSet l s j)
    (by rw [View.set_slice_whole]; exact Finset.Subset.refl _)

theorem wp_load_pt {Φ : α → sProp 𝕄} (j : Fin 4) {off : Fin 3 → Nat} (h : off = ptOff j)
    {inb : ∀ a, off a + S1x128x256.size a ≤ S4x128x256.size a} {hl}
    {k : (S1x128x256.Idx → Elt F .bf16) → Prog (TpuEff nD τ sig (Elt F) Λ₀ .tc) α} :
    (ptP c j (PT m c) : sProp 𝕄)
      ⊢ iprop((ptP c j (PT m c) -∗ WP c (k (Part m c j)) Φ)
          -∗ WP c (.op (.load ptM (Rect.unit (s := S4x128x256) off S1x128x256.size inb).toLoadRect hl) k) Φ) := by
  subst h
  rw [← load_pt m c j]
  unfold ptP
  exact wp_load_rect 𝒱₀ (c : Thread nD τ) none Set.univ (m := ptM) (r := ptR j) (f := PT m c) (S := ptSet j)
    (by rw [View.set_slice_whole]; exact Finset.Subset.refl _)

/-- The store of a partial product into its window; what the load before it reads is not used. -/
theorem wp_store_bc {Φ : α → sProp 𝕄} (l : Fin 2) (s j : Fin 4) {off : Fin 4 → Nat} (h : off = bcOff l s j)
    {inb : ∀ a, off a + S1x1x128x256.size a ≤ S2x4x512x256.size a} {hl hx hm}
    {v : S1x1x128x256.Idx → Elt F .bf16} (hv : v = Bv m l s j)
    {k : PUnit → Prog (TpuEff nD τ sig (Elt F) Λ₀ .tc) α} :
    (iprop(∃ f, bcP c l s j fullShare f) : sProp 𝕄)
      ⊢ iprop((bcP c l s j fullShare (G m) -∗ WP c (k ⟨⟩) Φ)
          -∗ WP c (.op (.load bcM (Rect.unit (s := S2x4x512x256) off S1x1x128x256.size inb).toLoadRect hl) fun _ =>
              .op (.store bcM (Rect.unit (s := S2x4x512x256) off S1x1x128x256.size inb) v Finset.univ hx hm) k) Φ) := by
  subst h hv
  iintro ⟨%f, H⟩ Hk
  unfold bcP
  iapply (wp_load_rect 𝒱₀ (c : Thread nD τ) none Set.univ (m := bcM) (r := bcR l s j) (f := f) (S := bcSet l s j)
    (by rw [View.set_slice_whole]; exact Finset.Subset.refl _)) $$ H
  iintro H
  iapply (wp_store 𝒱₀ (c : Thread nD τ) none Set.univ (m := bcM) (r := bcR l s j) (f := f) (S := bcSet l s j) (Mk := Finset.univ)
    (by rw [View.setOn_univ, View.set_slice_whole]; exact Finset.Subset.refl _)) $$ H
  iintro H
  iapply Hk
  iapply (Entails.of_eq (pointsTo_congr (store_bc m l s j f))) $$ H

theorem wp_store_pt {Φ : α → sProp 𝕄} (j : Fin 4) {off : Fin 3 → Nat} (h : off = ptOff j)
    {inb : ∀ a, off a + S1x128x256.size a ≤ S4x128x256.size a} {hl hx hm}
    {v : S1x128x256.Idx → Elt F .bf16} (hv : v = Part m c j)
    {k : PUnit → Prog (TpuEff nD τ sig (Elt F) Λ₀ .tc) α} :
    (iprop(∃ f, ptP c j f) : sProp 𝕄)
      ⊢ iprop((ptP c j (PT m c) -∗ WP c (k ⟨⟩) Φ)
          -∗ WP c (.op (.load ptM (Rect.unit (s := S4x128x256) off S1x128x256.size inb).toLoadRect hl) fun _ =>
              .op (.store ptM (Rect.unit (s := S4x128x256) off S1x128x256.size inb) v Finset.univ hx hm) k) Φ) := by
  subst h hv
  iintro ⟨%f, H⟩ Hk
  unfold ptP
  iapply (wp_load_rect 𝒱₀ (c : Thread nD τ) none Set.univ (m := ptM) (r := ptR j) (f := f) (S := ptSet j)
    (by rw [View.set_slice_whole]; exact Finset.Subset.refl _)) $$ H
  iintro H
  iapply (wp_store 𝒱₀ (c : Thread nD τ) none Set.univ (m := ptM) (r := ptR j) (f := f) (S := ptSet j) (Mk := Finset.univ)
    (by rw [View.setOn_univ, View.set_slice_whole]; exact Finset.Subset.refl _)) $$ H
  iintro H
  iapply Hk
  iapply (Entails.of_eq (pointsTo_congr (store_pt m c j f))) $$ H

/-! ## The barrier -/

/-- A signal to a peer's barrier cell, with the windows the peer will write. -/
theorem wp_signal_peer {Φ : α → sProp 𝕄} (o : Fin 3) {D₀ : List (GSem nD τ sig × ℕ)} (D : List (GSem nD τ sig × ℕ)) (hD : D₀ = (barCell (peer c o), 1) :: D) {n : Dev nD} (hn : n = peer c o)
    {k : PUnit → Prog (TpuEff nD τ sig (Elt F) Λ₀ .tc) α} :
    env m K ⊢ iprop(owesL c D₀ -∗ dutyTok ER (barCell (peer c o)) 0 c -∗ land c (peer c o)
      -∗ (owesL c D -∗ WP c (k ⟨⟩) Φ)
      -∗ WP c (.op (.semSignal (n, .tc) barS (1#32 : BitVec 32).toInt) k) Φ) := by
  subst hn hD
  unfold owesL
  iintro #He ⟨%W, HO⟩ Ht Hl Hk
  ihave #HI := (env_inv m K (peer c o, .inl ())) $$ He
  ihave #Hr := (env_reached m K (peer c o, .inl ())) $$ He
  iapply (Rounds.wp_signal 𝒱₀ ER (sched m) (c : Thread nD τ) none (dst := (peer c o : Thread nD τ)) (κ := K (peer c o, .inl ()))
      (d := c) (by rw [duties_bar]; exact Finset.mem_erase.mpr ⟨ne_peer c o, Finset.mem_univ _⟩) ((amount_bar m (peer c o) c).trans (by decide)) ()
      (tal D) rfl) $$ [HO Ht Hl]
  · isplitr; · iexact HI
    isplitl [HO]; · iexact HO
    isplitl [Ht]; · iexact Ht
    isplitl [Hl]; · rw [payload_bar]; iexact Hl
    iexact Hr
  iintro HO
  iapply Hk
  iexists W; iexact HO

/-- The wait for the three peers' signals: their windows for `c` come with it. -/
theorem wp_barrier {Φ : α → sProp 𝕄} (D : List (GSem nD τ sig × ℕ)) (hD : Above 1 D)
    {k : PUnit → Prog (TpuEff nD τ sig (Elt F) Λ₀ .tc) α} :
    env m K ⊢ iprop(owesL c D -∗ atPos ER (barCell c) 0 ∅ 0 -∗ cred (tallyAt (barCell c) () 3)
      -∗ ((owesL c D ∗ semVal (barCell c) 0 ∗ bigSep (Finset.univ.erase c) fun s => land s c) -∗ WP c (k ⟨⟩) Φ)
      -∗ WP c (.op (.semWait barS (3#32 : BitVec 32).toInt) k) Φ) := by
  unfold owesL
  iintro #He ⟨%W, HO⟩ Ha Hc Hk
  ihave #HI := (env_inv m K (c, .inl ())) $$ He
  ihave #Hl := (env_lev m K) $$ He
  iapply (Rounds.wp_wait_rest_token 𝒱₀ ER (sched m) (c : Thread nD τ) none (κ := K (c, .inl ()))
      (wpE_semWait_eq 𝒱₀ (c : Thread nD τ) none Set.univ) (Set.mem_univ _) () (O := tal D) (W := W) (R := 0) (m := 0) (T := ∅)
      ((Nat.zero_add _).trans ((by decide : _ = 3).trans (expect_bar m c).symm))) $$ [HO Ha Hc]
  · isplitr; · iexact HI
    isplitl [Hc]; · iexact Hc
    isplitl [HO]; · iexact HO
    isplitr
    · iapply (mayWait c (.reg barS) (n := 1) (Nat.le_refl 1) hD); iexact Hl
    iexact Ha
  iintro ⟨HO, Ha, -, Hp⟩
  ihave Hp := (Entails.of_eq (rest_bar m c)) $$ Hp
  imod (Rounds.cell_close ER (sched m) (Set.mem_univ (K (c, .inl ()))) (fun h => h) (R := 0 + 1) (duties_later m (barCell c))) $$ [Ha] with Hz
  · isplitr; · iexact HI
    iexact Ha
  iapply Hk
  isplitl [HO]; · iexists _; iexact HO
  isplitl [Hz]; · iexact Hz
  iexact Hp

/-! ## Waits at the kernel's own cells -/

/-- Every window of the three buffers has the same credit. -/
theorem credit_any (w : Memref sig .tc .vmem S128x256 .bf16) : w.view.dmaCredit = N := rfl

/-- A wait at a cell that one device pays: the payment comes with it, and the cell closes. -/
theorem wp_wait_k {Φ : α → sProp 𝕄} (kx : KX) {d : Fin 4} (hd : dutiesK c kx = {d}) {D : List (GSem nD τ sig × ℕ)} (hD : Above (lvK kx) D)
    {q₀ q : DmaSem sig} (hq₀ : odma kx = q₀) (hq : q = q₀) {w w' : Memref sig .tc .vmem S128x256 .bf16} {hw hw'}
    {k : PUnit → Prog (TpuEff nD τ sig (Elt F) Λ₀ .tc) α} :
    env m K ⊢ iprop(owesL c D -∗ (atPos ER (cellD c q₀) 0 ∅ 0 ∗ cred (tallyAt (cellD c q₀) () N))
      -∗ ((owesL c D ∗ semVal (cellD c q₀) 0 ∗ payK m c kx) -∗ WP c (k ⟨⟩) Φ)
      -∗ WP c (.op (.waitDma2 q w w' hw hw') k) Φ) := by
  have hN : w'.view.dmaCredit = N := credit_any w'
  subst hq₀ hq
  unfold owesL
  iintro #He ⟨%W, HO⟩ ⟨Ha, Hc⟩ Hk
  ihave #HI := (env_inv m K (c, .inr kx)) $$ He
  ihave #Hl := (env_lev m K) $$ He
  rw [← hN]
  iapply (Rounds.wp_wait_rest_token 𝒱₀ ER (sched m) (c : Thread nD τ) none (κ := K (c, .inr kx))
      (wpE_waitDma2_eq 𝒱₀ (c : Thread nD τ) none Set.univ) (Set.mem_univ _) () (O := tal D) (W := W) (R := 0) (m := 0) (T := ∅)
      ((Nat.zero_add _).trans (hN.trans (expect_k m c kx hd).symm))) $$ [HO Ha Hc]
  · isplitr; · iexact HI
    isplitl [Hc]; · iexact Hc
    isplitl [HO]; · iexact HO
    isplitr
    · iapply (mayWait c (.dma (odma kx)) (n := lvK kx) (Nat.le_of_eq (lvS_odma kx)) hD); iexact Hl
    iexact Ha
  iintro ⟨HO, Ha, -, Hp⟩
  ihave Hp := (Entails.of_eq (rest_k m c kx hd)) $$ Hp
  imod (Rounds.cell_close ER (sched m) (Set.mem_univ (K (c, .inr kx))) (fun h => h) (R := 0 + 1) (duties_later m (cellD c (odma kx)))) $$ [Ha] with Hz
  · isplitr; · iexact HI
    iexact Ha
  iapply Hk
  isplitl [HO]; · iexists _; iexact HO
  isplitl [Hz]; · iexact Hz
  iexact Hp

/-! ## The transfers -/

omit [FloatOps F] in
theorem bcP_view (e : Dev nD) (l : Fin 2) (s j : Fin 4) (q : PosShare TreeShare) (f) :
    (bcP (F := F) e l s j q f : sProp 𝕄) = ((bcW l s j).view.loc (e : Thread nD τ) ↦[(bcW l s j).view.set]{q} f) := by
  unfold bcP; rw [bcW_set]
omit [FloatOps F] in
theorem ptP_view (e : Dev nD) (j : Fin 4) (f) :
    (ptP (F := F) e j f : sProp 𝕄) = ((ptW j).view.loc (e : Thread nD τ) ↦[(ptW j).view.set]{fullShare} f) := by
  unfold ptP; rw [ptW_set]
omit [FloatOps F] in
theorem rsP_view (e : Dev nD) (j : Fin 4) (f) :
    (rsP (F := F) e j f : sProp 𝕄) = ((rsW j).view.loc (e : Thread nD τ) ↦[(rsW j).view.set]{fullShare} f) := by
  unfold rsP; rw [rsW_set]

/-- What device `c` needs to send chunk `j` of layer `l` to its peer `o`, and what the send leaves for its wait. -/
def sndIn (l : Fin 2) (j : Fin 4) (o : Fin 3) : sProp 𝕄 :=
  iprop(atPos ER (cellD c (sndS l j o)) 0 ∅ 0 ∗ dutyTok ER (cellD c (sndS l j o)) 0 c ∗ dutyTok ER (cellD (peer c o) (rcvS l c j)) 0 c)
def sndOut (l : Fin 2) (j : Fin 4) (o : Fin 3) : sProp 𝕄 :=
  iprop(atPos ER (cellD c (sndS l j o)) 0 ∅ 0 ∗ cred (tallyAt (cellD c (sndS l j o)) () N))

theorem dutiesK_snd {e : Dev nD} (l : Fin 2) (j : Fin 4) (o : Fin 3) : dutiesK e (.inl (l, j, o)) = {e} := rfl
theorem dutiesK_rcv {e s : Dev nD} (h : s ≠ e) {l : Fin 2} {j : Fin 4} : dutiesK e (.inr (.inl (l, s, j))) = {s} := if_neg h
theorem dutiesK_srs {e j : Dev nD} (h : j ≠ e) : dutiesK e (.inr (.inr (.inl j))) = {e} := if_neg h
theorem dutiesK_rrs {e s : Dev nD} (h : s ≠ e) : dutiesK e (.inr (.inr (.inr s))) = {s} := if_neg h
theorem snd_duty (l : Fin 2) (j : Fin 4) (o : Fin 3) : c ∈ (sched m).duties (cellD c (sndS l j o)) 0 := by
  rw [show sndS l j o = odma (.inl (l, j, o)) from rfl, duties_k]; exact Finset.mem_singleton_self _
theorem rcv_duty (l : Fin 2) (j : Fin 4) (o : Fin 3) : c ∈ (sched m).duties (cellD (peer c o) (rcvS l c j)) 0 := by
  rw [show rcvS l c j = odma (.inr (.inl (l, c, j))) from rfl, duties_k, dutiesK_rcv (ne_peer c o)]; exact Finset.mem_singleton_self _
theorem snd_pay (l : Fin 2) (j : Fin 4) (o : Fin 3) :
    ((bcW l c j).view.loc (c : Thread nD τ) ↦[(bcW l c j).view.set]{sh o} (G m) : sProp 𝕄) ⊢ (sched m).payload (cellD c (sndS l j o)) 0 c :=
  (Entails.of_eq (bcP_view c l c j (sh o) (G m)).symm).trans (Entails.of_eq (payload_k m c (.inl (l, j, o)) c).symm)
theorem rcv_pay (l : Fin 2) (j : Fin 4) (o : Fin 3) (fd : (cc0_scratch0 : Ref sig .tc).ty.Contents (Elt F)) :
    ((bcW l c j).view.loc (peer c o : Thread nD τ) ↦[(bcW l c j).view.set]{fullShare}
        ((bcW l c j).view.write (Elt F) fd ((bcW l c j).view.read (Elt F) (G m)) Finset.univ) : sProp 𝕄)
      ⊢ (sched m).payload (cellD (peer c o) (rcvS l c j)) 0 c :=
  ((Entails.of_eq (bcP_view (peer c o) l c j fullShare _).symm).trans (Entails.of_eq (pointsTo_congr (land_bc m l c j fd)))).trans
    (Entails.of_eq (payload_k m (peer c o) (.inr (.inl (l, c, j))) c).symm)

theorem amount_bc (l : Fin 2) (s j : Fin 4) (q : DmaSem sig) : (bcW l s j).view.amount (.dma q) = N := credit_bc l s j

theorem wp_send_bc {Φ : α → sProp 𝕄} (l : Fin 2) (j : Fin 4) (o : Fin 3) {D₀ : List (GSem nD τ sig × ℕ)} (D : List (GSem nD τ sig × ℕ))
    (hD : D₀ = (cellD (peer c o) (rcvS l c j), N) :: D)
    {n : Dev nD} (hn : n = peer c o) {w : Memref sig .tc .vmem S128x256 .bf16} (hw : w = bcW l c j)
    {q r : DmaSem sig} (hq : q = sndS l j o) (hr : r = rcvS l c j) {hsc hsrc hdst hsem}
    {k : PUnit → Prog (TpuEff nD τ sig (Elt F) Λ₀ .tc) α} :
    env m K ⊢ iprop(owesL c D₀ -∗ sndIn c l j o
      -∗ bcP c l c j (sh o) (G m) -∗ (∃ f, bcP (peer c o) l c j fullShare f)
      -∗ ((owesL c D ∗ sndOut c l j o) -∗ WP c (k ⟨⟩) Φ)
      -∗ WP c (.op (.enqueueDma w (.remote (Dev.tc n : Thread nD τ) w (.dma q) hsc) (.dma r) hsrc hdst hsem) k) Φ) := by
  subst hn hw hq hr hD
  unfold owesL sndIn sndOut
  iintro #He ⟨%W, HO⟩ ⟨Ha, Ht, Ht'⟩ Hs ⟨%fd, Hd⟩ Hk
  ihave #HI := (env_inv m K (c, .inr (.inl (l, j, o)))) $$ He
  ihave #Hr := (env_reached m K (c, .inr (.inl (l, j, o)))) $$ He
  ihave #HI' := (env_inv m K (peer c o, .inr (.inr (.inl (l, c, j))))) $$ He
  ihave #Hr' := (env_reached m K (peer c o, .inr (.inr (.inl (l, c, j))))) $$ He
  iapply (Rounds.wp_send_pointsTo 𝒱₀ ER (sched m) (c : Thread nD τ) none (κ₁ := K (c, .inr (.inl (l, j, o))))
    (c' := (peer c o : Thread nD τ)) (src := bcW l c j) (dst := bcW l c j) (sS := .dma (sndS l j o)) (sem := .dma (rcvS l c j))
    (κ₂ := K (peer c o, .inr (.inr (.inl (l, c, j))))) (r₁ := 0) (r₂ := 0) (d₁ := c) (d₂ := c) (q := sh o) (fs := G m) (fd := fd)
    (snd_duty m c l j o) (rcv_duty m c l j o) () () N (amount_bc l c j _) (amount_k m c _ c) (amount_k m (peer c o) _ c)
    (O₀ := tal ((cellD (peer c o) (rcvS l c j), N) :: D)) (tal D) rfl (W := W) (snd_pay m c l j o) (rcv_pay m c l j o fd)) $$ [HO Ht Ht' Hs Hd]
  · isplitr; · iexact HI
    isplitr; · iexact HI'
    isplitl [Hs]; · iapply (Entails.of_eq (bcP_view c l c j (sh o) (G m))) $$ Hs
    isplitl [Hd]; · iapply (Entails.of_eq (bcP_view (peer c o) l c j fullShare fd)) $$ Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  isplitl [Ha]; · iexact Ha
  iexact Hc

/-- The three transfers of one broadcast, in the order the kernel starts them. -/
theorem wp_bcast {Φ : α → sProp 𝕄} (l : Fin 2) (j : Fin 4) {D₀ : List (GSem nD τ sig × ℕ)} (D : List (GSem nD τ sig × ℕ)) (hD : D₀ = dueB c l j ++ D)
    {n n' n'' : Dev nD} (hn : n = peer c 1) (hn' : n' = peer c 0) (hn'' : n'' = peer c 2)
    {w w' w'' : Memref sig .tc .vmem S128x256 .bf16} (hw : w = bcW l c j) (hw' : w' = bcW l c j) (hw'' : w'' = bcW l c j)
    {q q' q'' r r' r'' : DmaSem sig} (hq : q = sndS l j 1) (hq' : q' = sndS l j 0) (hq'' : q'' = sndS l j 2)
    (hr : r = rcvS l c j) (hr' : r' = rcvS l c j) (hr'' : r'' = rcvS l c j)
    {hsc hsrc hdst hsem hsc' hsrc' hdst' hsem' hsc'' hsrc'' hdst'' hsem''}
    {k : PUnit → Prog (TpuEff nD τ sig (Elt F) Λ₀ .tc) α} :
    env m K ⊢ iprop(owesL c D₀ -∗ tri (fun o => sndIn c l j o)
      -∗ bcP c l c j fullShare (G m) -∗ tri (fun o => iprop(∃ f, bcP (peer c o) l c j fullShare f))
      -∗ ((owesL c D ∗ tri (fun o => sndOut c l j o) ∗ bcP c l c j shK (G m)) -∗ WP c (k ⟨⟩) Φ)
      -∗ WP c (.op (.enqueueDma w (.remote (Dev.tc n : Thread nD τ) w (.dma q) hsc) (.dma r) hsrc hdst hsem) fun _ =>
            .op (.enqueueDma w' (.remote (Dev.tc n' : Thread nD τ) w' (.dma q') hsc') (.dma r') hsrc' hdst' hsem') fun _ =>
            .op (.enqueueDma w'' (.remote (Dev.tc n'' : Thread nD τ) w'' (.dma q'') hsc'') (.dma r'') hsrc'' hdst'' hsem'') k) Φ) := by
  subst hD
  unfold tri
  iintro #He HO ⟨Hs0, Hs1, Hs2⟩ Hb ⟨Hl0, Hl1, Hl2⟩ Hk
  ihave Hb := (bcP_split c l c j (G m)).1 $$ Hb
  icases Hb with ⟨Hb, Hb0, Hb1, Hb2⟩
  iapply (wp_send_bc m K c l j 1 (D₀ := dueB c l j ++ D) ((cellD (peer c 0) (rcvS l c j), N) :: (cellD (peer c 2) (rcvS l c j), N) :: D) rfl hn hw hq hr) $$ He HO Hs1 Hb1 Hl1
  iintro ⟨HO, Hs1⟩
  iapply (wp_send_bc m K c l j 0 ((cellD (peer c 2) (rcvS l c j), N) :: D) rfl hn' hw' hq' hr') $$ He HO Hs0 Hb0 Hl0
  iintro ⟨HO, Hs0⟩
  iapply (wp_send_bc m K c l j 2 D rfl hn'' hw'' hq'' hr'') $$ He HO Hs2 Hb2 Hl2
  iintro ⟨HO, Hs2⟩
  iapply Hk
  isplitl [HO]; · iexact HO
  isplitr [Hb]
  · isplitl [Hs0]; · iexact Hs0
    isplitl [Hs1] <;> iassumption
  iexact Hb

/-- What device `c` needs to receive chunk `j` of layer `l` from its peer `o`, and what it has then. -/
def rcvIn (l : Fin 2) (j : Fin 4) (o : Fin 3) : sProp 𝕄 :=
  iprop(atPos ER (cellD c (rcvS l (peer c o) j)) 0 ∅ 0 ∗ cred (tallyAt (cellD c (rcvS l (peer c o) j)) () N))
def rcvOut (l : Fin 2) (j : Fin 4) (o : Fin 3) : sProp 𝕄 :=
  iprop(semVal (cellD c (rcvS l (peer c o) j)) 0 ∗ bcP c l (peer c o) j fullShare (G m))

theorem wp_recv_bc {Φ : α → sProp 𝕄} (l : Fin 2) (j : Fin 4) (o : Fin 3) {D : List (GSem nD τ sig × ℕ)} (hD : Above (2 + l.val) D)
    {q : DmaSem sig} (hq : q = rcvS l (peer c o) j) {w w' : Memref sig .tc .vmem S128x256 .bf16} {hw hw'}
    {off : Fin 4 → Nat} (h : off = bcOff l (peer c o) j)
    {inb : ∀ a, off a + S1x1x128x256.size a ≤ S2x4x512x256.size a} {hl}
    {k : (S1x1x128x256.Idx → Elt F .bf16) → Prog (TpuEff nD τ sig (Elt F) Λ₀ .tc) α} :
    env m K ⊢ iprop(owesL c D -∗ rcvIn c l j o
      -∗ ((owesL c D ∗ rcvOut m c l j o) -∗ WP c (k (Bv m l (peer c o) j)) Φ)
      -∗ WP c (.op (.waitDma2 q w w' hw hw') fun _ =>
            .op (.load bcM (Rect.unit (s := S2x4x512x256) off S1x1x128x256.size inb).toLoadRect hl) k) Φ) := by
  unfold rcvIn rcvOut
  iintro #He HO Hr Hk
  iapply (wp_wait_k m K c (.inr (.inl (l, peer c o, j))) (dutiesK_rcv (peer_ne c o)) hD (q₀ := rcvS l (peer c o) j) rfl hq) $$ He HO Hr
  iintro ⟨HO, Hz, Hp⟩
  unfold payK
  iapply (wp_load_bc m c l (peer c o) j fullShare h) $$ Hp
  iintro Hp
  iapply Hk
  isplitl [HO]; · iexact HO
  isplitl [Hz] <;> iassumption

/-- The gather of chunk `j` of layer `l`: the device's own block, then its peers' in the kernel's order. -/
theorem wp_gather {Φ : α → sProp 𝕄} (l : Fin 2) (j : Fin 4) {D : List (GSem nD τ sig × ℕ)} (hD : Above (2 + l.val) D)
    {o0 o1 o2 o3 : Fin 4 → Nat} (h0 : o0 = bcOff l c j) (h1 : o1 = bcOff l (peer c 0) j) (h2 : o2 = bcOff l (peer c 2) j) (h3 : o3 = bcOff l (peer c 1) j)
    {q1 q2 q3 : DmaSem sig} (hq1 : q1 = rcvS l (peer c 0) j) (hq2 : q2 = rcvS l (peer c 2) j) (hq3 : q3 = rcvS l (peer c 1) j)
    {w1 w1' w2 w2' w3 w3' : Memref sig .tc .vmem S128x256 .bf16} {hw1 hw1' hw2 hw2' hw3 hw3'}
    {i0 : ∀ a, o0 a + S1x1x128x256.size a ≤ S2x4x512x256.size a} {i1 : ∀ a, o1 a + S1x1x128x256.size a ≤ S2x4x512x256.size a}
    {i2 : ∀ a, o2 a + S1x1x128x256.size a ≤ S2x4x512x256.size a} {i3 : ∀ a, o3 a + S1x1x128x256.size a ≤ S2x4x512x256.size a} {l0 l1 l2 l3}
    {k : (S1x1x128x256.Idx → Elt F .bf16) → (S1x1x128x256.Idx → Elt F .bf16) → (S1x1x128x256.Idx → Elt F .bf16) → (S1x1x128x256.Idx → Elt F .bf16)
      → Prog (TpuEff nD τ sig (Elt F) Λ₀ .tc) α} :
    env m K ⊢ iprop(owesL c D -∗ bcP c l c j shK (G m) -∗ tri (fun o => rcvIn c l j o)
      -∗ ((owesL c D ∗ bcP c l c j shK (G m) ∗ tri (fun o => rcvOut m c l j o))
          -∗ WP c (k (Bv m l c j) (Bv m l (peer c 0) j) (Bv m l (peer c 2) j) (Bv m l (peer c 1) j)) Φ)
      -∗ WP c (.op (.load bcM (Rect.unit (s := S2x4x512x256) o0 S1x1x128x256.size i0).toLoadRect l0) fun v0 =>
            .op (.waitDma2 q1 w1 w1' hw1 hw1') fun _ =>
            .op (.load bcM (Rect.unit (s := S2x4x512x256) o1 S1x1x128x256.size i1).toLoadRect l1) fun v1 =>
            .op (.waitDma2 q2 w2 w2' hw2 hw2') fun _ =>
            .op (.load bcM (Rect.unit (s := S2x4x512x256) o2 S1x1x128x256.size i2).toLoadRect l2) fun v2 =>
            .op (.waitDma2 q3 w3 w3' hw3 hw3') fun _ =>
            .op (.load bcM (Rect.unit (s := S2x4x512x256) o3 S1x1x128x256.size i3).toLoadRect l3) fun v3 => k v0 v1 v2 v3) Φ) := by
  unfold tri
  iintro #He HO Hb ⟨Hr0, Hr1, Hr2⟩ Hk
  iapply (wp_load_bc m c l c j shK h0) $$ Hb
  iintro Hb
  iapply (wp_recv_bc m K c l j 0 hD hq1 h1) $$ He HO Hr0
  iintro ⟨HO, Hr0⟩
  iapply (wp_recv_bc m K c l j 2 hD hq2 h2) $$ He HO Hr2
  iintro ⟨HO, Hr2⟩
  iapply (wp_recv_bc m K c l j 1 hD hq3 h3) $$ He HO Hr1
  iintro ⟨HO, Hr1⟩
  iapply Hk
  isplitl [HO]; · iexact HO
  isplitl [Hb]; · iexact Hb
  isplitl [Hr0]; · iexact Hr0
  isplitl [Hr1]; · iexact Hr1
  iexact Hr2

/-- The wait for a broadcast's own transfer: the lent share comes back. -/
def sndZ (l : Fin 2) (j : Fin 4) (o : Fin 3) : sProp 𝕄 :=
  iprop(semVal (cellD c (sndS l j o)) 0 ∗ bcP c l c j (sh o) (G m))

theorem wp_wait_snd {Φ : α → sProp 𝕄} (l : Fin 2) (j : Fin 4) (o : Fin 3)
    {q : DmaSem sig} (hq : q = sndS l j o) {w w' : Memref sig .tc .vmem S128x256 .bf16} {hw hw'}
    {k : PUnit → Prog (TpuEff nD τ sig (Elt F) Λ₀ .tc) α} :
    env m K ⊢ iprop(owesL c [] -∗ sndOut c l j o
      -∗ ((owesL c [] ∗ sndZ m c l j o) -∗ WP c (k ⟨⟩) Φ)
      -∗ WP c (.op (.waitDma2 q w w' hw hw') k) Φ) :=
  wp_wait_k m K c (.inl (l, j, o)) (dutiesK_snd l j o) (above_nil _) rfl hq

/-! ## The last exchange -/

theorem srs_duty {j : Dev nD} (h : j ≠ c) : c ∈ (sched m).duties (cellD c (srsS j)) 0 := by
  rw [show srsS j = odma (.inr (.inr (.inl j))) from rfl, duties_k, dutiesK_srs h]; exact Finset.mem_singleton_self _
theorem rrs_duty {j : Dev nD} (h : j ≠ c) : c ∈ (sched m).duties (cellD j (rrsS c)) 0 := by
  rw [show rrsS c = odma (.inr (.inr (.inr c))) from rfl, duties_k, dutiesK_rrs (Ne.symm h)]; exact Finset.mem_singleton_self _
theorem srs_pay (j : Dev nD) :
    ((ptW j).view.loc (c : Thread nD τ) ↦[(ptW j).view.set]{fullShare} (PT m c) : sProp 𝕄) ⊢ (sched m).payload (cellD c (srsS j)) 0 c :=
  (Entails.of_eq (ptP_view c j (PT m c)).symm).trans (Entails.of_eq (payload_k m c (.inr (.inr (.inl j))) c).symm)
theorem rrs_pay (j : Dev nD) (fd : (cc0_scratch2 : Ref sig .tc).ty.Contents (Elt F)) :
    ((rsW c).view.loc (j : Thread nD τ) ↦[(rsW c).view.set]{fullShare}
        ((rsW c).view.write (Elt F) fd ((ptW j).view.read (Elt F) (PT m c)) Finset.univ) : sProp 𝕄)
      ⊢ (sched m).payload (cellD j (rrsS c)) 0 c :=
  ((Entails.of_eq (rsP_view j c _).symm).trans (Entails.of_eq (pointsTo_congr (land_rs m c j fd)))).trans
    (Entails.of_eq (payload_k m j (.inr (.inr (.inr c))) c).symm)
theorem amount_rs (j : Fin 4) (q : DmaSem sig) : (rsW j).view.amount (.dma q) = N := credit_rs j

/-- What device `c` needs for slot `j` of the last exchange (nothing is sent when `j` is `c` itself), what is left for the
    wait at the end, and what it has then. -/
def srsIn (j : Dev nD) : sProp 𝕄 :=
  iprop(atPos ER (cellD c (srsS j)) 0 ∅ 0
    ∗ if j = c then iprop(emp) else iprop(dutyTok ER (cellD c (srsS j)) 0 c ∗ dutyTok ER (cellD j (rrsS c)) 0 c ∗ ∃ f, rsP j c f))
def srsOut (j : Dev nD) : sProp 𝕄 :=
  iprop(atPos ER (cellD c (srsS j)) 0 ∅ 0 ∗ if j = c then ptP c j (PT m c) else cred (tallyAt (cellD c (srsS j)) () N))
def srsZ (j : Dev nD) : sProp 𝕄 :=
  iprop(semVal (cellD c (srsS j)) 0 ∗ ptP c j (PT m c))

theorem wp_send_rs {Φ : α → sProp 𝕄} {j : Dev nD} (hj : j ≠ c) {D₀ : List (GSem nD τ sig × ℕ)} (D : List (GSem nD τ sig × ℕ)) (hD : D₀ = dueR c j ++ D)
    {n : Dev nD} (hn : n = j) {w w' : Memref sig .tc .vmem S128x256 .bf16} (hw : w = ptW j) (hw' : w' = rsW c)
    {q r : DmaSem sig} (hq : q = srsS j) (hr : r = rrsS c) {hsc hsrc hdst hsem}
    {k : PUnit → Prog (TpuEff nD τ sig (Elt F) Λ₀ .tc) α} :
    env m K ⊢ iprop(owesL c D₀ -∗ srsIn c j -∗ ptP c j (PT m c)
      -∗ ((owesL c D ∗ srsOut m c j) -∗ WP c (k ⟨⟩) Φ)
      -∗ WP c (.op (.enqueueDma w (.remote (Dev.tc n : Thread nD τ) w' (.dma q) hsc) (.dma r) hsrc hdst hsem) k) Φ) := by
  subst hn hw hw' hq hr hD
  unfold owesL srsIn srsOut
  rw [if_neg hj, if_neg hj]
  iintro #He ⟨%W, HO⟩ ⟨Ha, Ht, Ht', ⟨%fd, Hd⟩⟩ Hs Hk
  ihave #HI := (env_inv m K (c, .inr (.inr (.inr (.inl n))))) $$ He
  ihave #Hr := (env_reached m K (c, .inr (.inr (.inr (.inl n))))) $$ He
  ihave #HI' := (env_inv m K (n, .inr (.inr (.inr (.inr c))))) $$ He
  ihave #Hr' := (env_reached m K (n, .inr (.inr (.inr (.inr c))))) $$ He
  iapply (Rounds.wp_send_pointsTo 𝒱₀ ER (sched m) (c : Thread nD τ) none (κ₁ := K (c, .inr (.inr (.inr (.inl n)))))
    (c' := (n : Thread nD τ)) (src := ptW n) (dst := rsW c) (sS := .dma (srsS n)) (sem := .dma (rrsS c))
    (κ₂ := K (n, .inr (.inr (.inr (.inr c))))) (r₁ := 0) (r₂ := 0) (d₁ := c) (d₂ := c) (q := fullShare) (fs := PT m c) (fd := fd)
    (srs_duty m c hj) (rrs_duty m c hj) () () N (amount_rs c _) (amount_k m c _ c) (amount_k m n _ c)
    (O₀ := tal (dueR c n ++ D)) (tal D) (by unfold dueR; rw [if_neg hj]; rfl) (W := W) (srs_pay m c n) (rrs_pay m c n fd)) $$ [HO Ht Ht' Hs Hd]
  · isplitr; · iexact HI
    isplitr; · iexact HI'
    isplitl [Hs]; · iapply (Entails.of_eq (ptP_view c n (PT m c))) $$ Hs
    isplitl [Hd]; · iapply (Entails.of_eq (rsP_view n c fd)) $$ Hd
    isplitl [HO]; · iexact HO
    isplitl [Ht]; · iexact Ht
    isplitr; · iexact Hr
    isplitl [Ht']; · iexact Ht'
    iexact Hr'
  iintro ⟨Hc, HO⟩
  iapply Hk
  isplitl [HO]; · iexists W; iexact HO
  isplitl [Ha]; · iexact Ha
  iexact Hc

/-- The slot of the device itself: nothing is sent. -/
theorem skip_send_rs {j : Dev nD} (hj : j = c) {D₀ : List (GSem nD τ sig × ℕ)} (D : List (GSem nD τ sig × ℕ)) (hD : D₀ = dueR c j ++ D) :
    iprop(owesL c D₀ ∗ srsIn c j ∗ ptP c j (PT m c)) ⊢ iprop(owesL c D ∗ srsOut m c j) := by
  subst hD
  unfold srsIn srsOut dueR
  rw [if_pos hj, if_pos hj, if_pos hj, List.nil_append]
  iintro ⟨HO, ⟨Ha, -⟩, Hp⟩
  isplitl [HO]; · iexact HO
  isplitl [Ha] <;> iassumption

/-- What device `c` needs to receive its slot from peer `o`, and what it has then. -/
def rrsIn (o : Fin 3) : sProp 𝕄 :=
  iprop(atPos ER (cellD c (rrsS (peer c o))) 0 ∅ 0 ∗ cred (tallyAt (cellD c (rrsS (peer c o))) () N))
def rrsOut (o : Fin 3) : sProp 𝕄 :=
  iprop(semVal (cellD c (rrsS (peer c o))) 0 ∗ rsP c (peer c o) (RS m c))

theorem wp_recv_rs {Φ : α → sProp 𝕄} (o : Fin 3)
    {q : DmaSem sig} (hq : q = rrsS (peer c o)) {w w' : Memref sig .tc .vmem S128x256 .bf16} {hw hw'}
    {off : Fin 3 → Nat} (h : off = ptOff (peer c o))
    {inb : ∀ a, off a + S1x128x256.size a ≤ S4x128x256.size a} {hl}
    {k : (S1x128x256.Idx → Elt F .bf16) → Prog (TpuEff nD τ sig (Elt F) Λ₀ .tc) α} :
    env m K ⊢ iprop(owesL c [] -∗ rrsIn c o
      -∗ ((owesL c [] ∗ rrsOut m c o) -∗ WP c (k (Part m (peer c o) c)) Φ)
      -∗ WP c (.op (.waitDma2 q w w' hw hw') fun _ =>
            .op (.load rsM (Rect.unit (s := S4x128x256) off S1x128x256.size inb).toLoadRect hl) k) Φ) := by
  subst h
  unfold rrsIn rrsOut
  iintro #He HO Hr Hk
  iapply (wp_wait_k m K c (.inr (.inr (.inr (peer c o)))) (dutiesK_rrs (peer_ne c o)) (above_nil _) (q₀ := rrsS (peer c o)) rfl hq) $$ He HO Hr
  iintro ⟨HO, Hz, Hp⟩
  rw [← load_rs m c (peer c o)]
  unfold payK rsP
  iapply (wp_load_rect 𝒱₀ (c : Thread nD τ) none Set.univ (m := rsM) (r := ptR (peer c o)) (f := RS m c) (S := ptSet (peer c o))
    (by rw [View.set_slice_whole]; exact Finset.Subset.refl _)) $$ Hp
  iintro Hp
  iapply Hk
  isplitl [HO]; · iexact HO
  isplitl [Hz] <;> iassumption

theorem wp_wait_srs {Φ : α → sProp 𝕄} {j : Dev nD} (hj : j ≠ c)
    {q : DmaSem sig} (hq : q = srsS j) {w w' : Memref sig .tc .vmem S128x256 .bf16} {hw hw'}
    {k : PUnit → Prog (TpuEff nD τ sig (Elt F) Λ₀ .tc) α} :
    env m K ⊢ iprop(owesL c [] -∗ srsOut m c j
      -∗ ((owesL c [] ∗ srsZ m c j) -∗ WP c (k ⟨⟩) Φ)
      -∗ WP c (.op (.waitDma2 q w w' hw hw') k) Φ) := by
  unfold srsOut
  rw [if_neg hj]
  exact wp_wait_k m K c (.inr (.inr (.inl j))) (dutiesK_srs hj) (above_nil _) rfl hq

/-- A cell of the kernel that nobody pays closes as it is. -/
theorem close_unpaid (kx : KX) (h : dutiesK c kx = ∅) :
    iprop(env m K ∗ atPos ER (cellD c (odma kx)) 0 ∅ 0) ⊢ |={Set.univ}=> semVal (cellD c (odma kx)) 0 := by
  iintro ⟨#He, Ha⟩
  ihave #HI := (env_inv m K (c, .inr kx)) $$ He
  iapply (Rounds.cell_close ER (sched m) (Set.mem_univ (K (c, .inr kx))) (fun h => h) (R := 0)
    (fun r _ => by
      rcases Nat.eq_zero_or_pos r with rfl | hr
      · exact (duties_k m c kx).trans h
      · exact duties_later m _ r hr))
  isplitr; · iexact HI
  iexact Ha

theorem skip_wait_srs {j : Dev nD} (hj : j = c) : iprop(env m K ∗ srsOut m c j) ⊢ |={Set.univ}=> srsZ m c j := by
  unfold srsOut srsZ
  rw [if_pos hj]
  iintro ⟨#He, Ha, Hp⟩
  imod (close_unpaid m K c (.inr (.inr (.inl j))) (if_pos hj)) $$ [Ha] with Hz
  · isplitr; · iexact He
    iexact Ha
  imodintro
  isplitl [Hz]; · iexact Hz
  iexact Hp

end Local

end Cert.K
-- ==== Proof.Chunks.lean ====
/-
# One chunk of one layer

The rules of a whole chunk's statements: the two broadcast layers and the last layer, whose partial result stays until it is sent.
-/
module

public import proofs.«01_k».proof.Proof.Steps
public import proofs.«01_k».proof.Proof.Steps

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CX → ℕ) (c : Dev nD) {α : Type}

/-- The staged inputs. -/
def staged : sProp 𝕄 :=
  iprop((((c : Thread nD τ).loc cc0_stg0_0) ↦{fullShare} X m c) ∗ (((c : Thread nD τ).loc cc0_stg1_0) ↦{fullShare} W0 m c)
    ∗ (((c : Thread nD τ).loc cc0_stg2_0) ↦{fullShare} U0 m c) ∗ (((c : Thread nD τ).loc cc0_stg3_0) ↦{fullShare} W1 m c)
    ∗ (((c : Thread nD τ).loc cc0_stg4_0) ↦{fullShare} U1 m c) ∗ (((c : Thread nD τ).loc cc0_stg5_0) ↦{fullShare} W2 m c)
    ∗ (((c : Thread nD τ).loc cc0_stg6_0) ↦{fullShare} U2 m c))

/-- What device `c` needs to compute and broadcast chunk `j` of layer `l`. -/
def outIn (l : Fin 2) (j : Fin 4) : sProp 𝕄 :=
  iprop((∃ f, bcP c l c j fullShare f) ∗ tri (fun o => sndIn c l j o) ∗ tri (fun o => iprop(∃ f, bcP (peer c o) l c j fullShare f)))

/-- One chunk of the first layer: load, compute, store, broadcast. -/
theorem wp_first {Φ : α → sProp 𝕄} (j : Fin 4) {D₀ : List (GSem nD τ sig × ℕ)} (D : List (GSem nD τ sig × ℕ)) (hD : D₀ = dueB c 0 j ++ D)
    {ox : Fin 2 → Nat} (hx : ox = xOff j) {ix : ∀ a, ox a + S128x256.size a ≤ S512x256.size a} {lx}
    {iw : ∀ a, (![0, 0] : Fin 2 → Nat) a + S256x512.size a ≤ S256x512.size a} {iu : ∀ a, (![0, 0] : Fin 2 → Nat) a + S512x256.size a ≤ S512x256.size a} {lw lu}
    {ob : Fin 4 → Nat} (hb : ob = bcOff 0 c j) {ib : ∀ a, ob a + S1x1x128x256.size a ≤ S2x4x512x256.size a} {lb xb mb}
    {pay : (S128x256.Idx → Elt F .f32) → (S256x512.Idx → Elt F .f32) → (S512x256.Idx → Elt F .f32) → (S1x1x128x256.Idx → Elt F .bf16)} (hv : pay (Xc m c j) (W0 m c) (U0 m c) = Bv m 0 c j)
    {n n' n'' : Dev nD} (hn : n = peer c 1) (hn' : n' = peer c 0) (hn'' : n'' = peer c 2)
    {w w' w'' : Memref sig .tc .vmem S128x256 .bf16} (hw : w = bcW 0 c j) (hw' : w' = bcW 0 c j) (hw'' : w'' = bcW 0 c j)
    {q q' q'' r r' r'' : DmaSem sig} (hq : q = sndS 0 j 1) (hq' : q' = sndS 0 j 0) (hq'' : q'' = sndS 0 j 2)
    (hr : r = rcvS 0 c j) (hr' : r' = rcvS 0 c j) (hr'' : r'' = rcvS 0 c j)
    {hsc hsrc hdst hsem hsc' hsrc' hdst' hsem' hsc'' hsrc'' hdst'' hsem''}
    {k : PUnit → Prog (TpuEff nD τ sig (Elt F) Λ₀ .tc) α} :
    env m K ⊢ iprop(owesL c D₀ -∗ staged m c -∗ outIn c 0 j
      -∗ ((owesL c D ∗ staged m c ∗ tri (fun o => sndOut c 0 j o) ∗ bcP c 0 c j shK (G m)) -∗ WP c (k ⟨⟩) Φ)
      -∗ WP c (.op (.load xM (Rect.unit (s := S512x256) ox S128x256.size ix).toLoadRect lx) fun xx =>
            .op (.load w0M (Rect.unit (s := S256x512) ![0, 0] S256x512.size iw).toLoadRect lw) fun xw =>
            .op (.load u0M (Rect.unit (s := S512x256) ![0, 0] S512x256.size iu).toLoadRect lu) fun xu =>
            .op (.load bcM (Rect.unit (s := S2x4x512x256) ob S1x1x128x256.size ib).toLoadRect lb) fun _ =>
            .op (.store bcM (Rect.unit (s := S2x4x512x256) ob S1x1x128x256.size ib) (pay xx xw xu) Finset.univ xb mb) fun _ =>
            .op (.enqueueDma w (.remote (Dev.tc n : Thread nD τ) w (.dma q) hsc) (.dma r) hsrc hdst hsem) fun _ =>
            .op (.enqueueDma w' (.remote (Dev.tc n' : Thread nD τ) w' (.dma q') hsc') (.dma r') hsrc' hdst' hsem') fun _ =>
            .op (.enqueueDma w'' (.remote (Dev.tc n'' : Thread nD τ) w'' (.dma q'') hsc'') (.dma r'') hsrc'' hdst'' hsem'') k) Φ) := by
  subst hx
  unfold staged outIn
  iintro #He HO ⟨HX, HW, HU, HS⟩ ⟨Hb, Hs, Hl⟩ Hk
  iapply (wp_load_stage c (mm := xM) (v := Xc m c j) rfl) $$ HX
  iintro HX
  iapply (wp_load_stage c (mm := w0M) (Memref.readAt_unit_zero (Elt F) cc0_stg1_0 hz2 _ (W0 m c))) $$ HW
  iintro HW
  iapply (wp_load_stage c (mm := u0M) (Memref.readAt_unit_zero (Elt F) cc0_stg2_0 hz2 _ (U0 m c))) $$ HU
  iintro HU
  iapply (wp_store_bc m c 0 c j hb hv) $$ Hb
  iintro Hb
  iapply (wp_bcast m K c 0 j (D₀ := D₀) D hD hn hn' hn'' hw hw' hw'' hq hq' hq'' hr hr' hr'') $$ He HO Hs Hb Hl
  iintro ⟨HO, Hs, Hb⟩
  iapply Hk
  isplitl [HO]; · iexact HO
  isplitr [Hs Hb]
  · isplitl [HX]; · iexact HX
    isplitl [HW]; · iexact HW
    isplitl [HU]; · iexact HU
    iexact HS
  isplitl [Hs] <;> iassumption

/-- What device `c` has after it has gathered chunk `j` of layer `l`. -/
def inOut (l : Fin 2) (j : Fin 4) : sProp 𝕄 :=
  iprop(bcP c l c j shK (G m) ∗ tri (fun o => rcvOut m c l j o))

/-- One chunk of the second layer: gather the first, compute, store, broadcast. -/
theorem wp_second {Φ : α → sProp 𝕄} (j : Fin 4) {D₀ : List (GSem nD τ sig × ℕ)} (D : List (GSem nD τ sig × ℕ)) (hD : D₀ = dueB c 1 j ++ D)
    (hA : Above 2 D₀)
    {o0 o1 o2 o3 : Fin 4 → Nat} (h0 : o0 = bcOff 0 c j) (h1 : o1 = bcOff 0 (peer c 0) j) (h2 : o2 = bcOff 0 (peer c 2) j) (h3 : o3 = bcOff 0 (peer c 1) j)
    {q1 q2 q3 : DmaSem sig} (hq1 : q1 = rcvS 0 (peer c 0) j) (hq2 : q2 = rcvS 0 (peer c 2) j) (hq3 : q3 = rcvS 0 (peer c 1) j)
    {w1 w1' w2 w2' w3 w3' : Memref sig .tc .vmem S128x256 .bf16} {hw1 hw1' hw2 hw2' hw3 hw3'}
    {i0 : ∀ a, o0 a + S1x1x128x256.size a ≤ S2x4x512x256.size a} {i1 : ∀ a, o1 a + S1x1x128x256.size a ≤ S2x4x512x256.size a}
    {i2 : ∀ a, o2 a + S1x1x128x256.size a ≤ S2x4x512x256.size a} {i3 : ∀ a, o3 a + S1x1x128x256.size a ≤ S2x4x512x256.size a} {l0 l1 l2 l3}
    {iw : ∀ a, (![0, 0] : Fin 2 → Nat) a + S256x512.size a ≤ S256x512.size a} {iu : ∀ a, (![0, 0] : Fin 2 → Nat) a + S512x256.size a ≤ S512x256.size a} {lw lu}
    {ob : Fin 4 → Nat} (hb : ob = bcOff 1 c j) {ib : ∀ a, ob a + S1x1x128x256.size a ≤ S2x4x512x256.size a} {lb xb mb}
    {pay : (S1x1x128x256.Idx → Elt F .bf16) → (S1x1x128x256.Idx → Elt F .bf16) → (S1x1x128x256.Idx → Elt F .bf16) → (S1x1x128x256.Idx → Elt F .bf16) → (S256x512.Idx → Elt F .f32) → (S512x256.Idx → Elt F .f32) → (S1x1x128x256.Idx → Elt F .bf16)}
    (hv : pay (B0 m c j) (B0 m (peer c 0) j) (B0 m (peer c 2) j) (B0 m (peer c 1) j) (W1 m c) (U1 m c) = B1 m c j)
    {n n' n'' : Dev nD} (hn : n = peer c 1) (hn' : n' = peer c 0) (hn'' : n'' = peer c 2)
    {w w' w'' : Memref sig .tc .vmem S128x256 .bf16} (hw : w = bcW 1 c j) (hw' : w' = bcW 1 c j) (hw'' : w'' = bcW 1 c j)
    {q q' q'' r r' r'' : DmaSem sig} (hq : q = sndS 1 j 1) (hq' : q' = sndS 1 j 0) (hq'' : q'' = sndS 1 j 2)
    (hr : r = rcvS 1 c j) (hr' : r' = rcvS 1 c j) (hr'' : r'' = rcvS 1 c j)
    {hsc hsrc hdst hsem hsc' hsrc' hdst' hsem' hsc'' hsrc'' hdst'' hsem''}
    {k : PUnit → Prog (TpuEff nD τ sig (Elt F) Λ₀ .tc) α} :
    env m K ⊢ iprop(owesL c D₀ -∗ staged m c -∗ bcP c 0 c j shK (G m) -∗ tri (fun o => rcvIn c 0 j o) -∗ outIn c 1 j
      -∗ ((owesL c D ∗ staged m c ∗ inOut m c 0 j ∗ tri (fun o => sndOut c 1 j o) ∗ bcP c 1 c j shK (G m)) -∗ WP c (k ⟨⟩) Φ)
      -∗ WP c (.op (.load bcM (Rect.unit (s := S2x4x512x256) o0 S1x1x128x256.size i0).toLoadRect l0) fun v0 =>
            .op (.waitDma2 q1 w1 w1' hw1 hw1') fun _ =>
            .op (.load bcM (Rect.unit (s := S2x4x512x256) o1 S1x1x128x256.size i1).toLoadRect l1) fun v1 =>
            .op (.waitDma2 q2 w2 w2' hw2 hw2') fun _ =>
            .op (.load bcM (Rect.unit (s := S2x4x512x256) o2 S1x1x128x256.size i2).toLoadRect l2) fun v2 =>
            .op (.waitDma2 q3 w3 w3' hw3 hw3') fun _ =>
            .op (.load bcM (Rect.unit (s := S2x4x512x256) o3 S1x1x128x256.size i3).toLoadRect l3) fun v3 =>
            .op (.load w1M (Rect.unit (s := S256x512) ![0, 0] S256x512.size iw).toLoadRect lw) fun xw =>
            .op (.load u1M (Rect.unit (s := S512x256) ![0, 0] S512x256.size iu).toLoadRect lu) fun xu =>
            .op (.load bcM (Rect.unit (s := S2x4x512x256) ob S1x1x128x256.size ib).toLoadRect lb) fun _ =>
            .op (.store bcM (Rect.unit (s := S2x4x512x256) ob S1x1x128x256.size ib) (pay v0 v1 v2 v3 xw xu) Finset.univ xb mb) fun _ =>
            .op (.enqueueDma w (.remote (Dev.tc n : Thread nD τ) w (.dma q) hsc) (.dma r) hsrc hdst hsem) fun _ =>
            .op (.enqueueDma w' (.remote (Dev.tc n' : Thread nD τ) w' (.dma q') hsc') (.dma r') hsrc' hdst' hsem') fun _ =>
            .op (.enqueueDma w'' (.remote (Dev.tc n'' : Thread nD τ) w'' (.dma q'') hsc'') (.dma r'') hsrc'' hdst'' hsem'') k) Φ) := by
  unfold staged inOut outIn
  iintro #He HO ⟨HX, HW0, HU0, HW, HU, HS⟩ Hg Hr ⟨Hb, Hs, Hl⟩ Hk
  iapply (wp_gather m K c 0 j (D := D₀) hA h0 h1 h2 h3 hq1 hq2 hq3) $$ He HO Hg Hr
  iintro ⟨HO, Hg, Hr⟩
  iapply (wp_load_stage c (mm := w1M) (Memref.readAt_unit_zero (Elt F) cc0_stg3_0 hz2 _ (W1 m c))) $$ HW
  iintro HW
  iapply (wp_load_stage c (mm := u1M) (Memref.readAt_unit_zero (Elt F) cc0_stg4_0 hz2 _ (U1 m c))) $$ HU
  iintro HU
  iapply (wp_store_bc m c 1 c j hb (by rw [Bv_zero, Bv_zero, Bv_zero, Bv_zero, Bv_one]; exact hv)) $$ Hb
  iintro Hb
  iapply (wp_bcast m K c 1 j (D₀ := D₀) D hD hn hn' hn'' hw hw' hw'' hq hq' hq'' hr hr' hr'') $$ He HO Hs Hb Hl
  iintro ⟨HO, Hs, Hb⟩
  iapply Hk
  isplitl [HO]; · iexact HO
  isplitr [Hs Hb Hg Hr]
  · isplitl [HX]; · iexact HX
    isplitl [HW0]; · iexact HW0
    isplitl [HU0]; · iexact HU0
    isplitl [HW]; · iexact HW
    isplitl [HU]; · iexact HU
    iexact HS
  isplitl [Hg Hr]; · isplitl [Hg] <;> iassumption
  isplitl [Hs] <;> iassumption

/-- One chunk of the third layer: gather the second, compute, store the partial result. -/
theorem wp_third {Φ : α → sProp 𝕄} (j : Fin 4) {D : List (GSem nD τ sig × ℕ)} (hA : Above 3 D)
    {o0 o1 o2 o3 : Fin 4 → Nat} (h0 : o0 = bcOff 1 c j) (h1 : o1 = bcOff 1 (peer c 0) j) (h2 : o2 = bcOff 1 (peer c 2) j) (h3 : o3 = bcOff 1 (peer c 1) j)
    {q1 q2 q3 : DmaSem sig} (hq1 : q1 = rcvS 1 (peer c 0) j) (hq2 : q2 = rcvS 1 (peer c 2) j) (hq3 : q3 = rcvS 1 (peer c 1) j)
    {w1 w1' w2 w2' w3 w3' : Memref sig .tc .vmem S128x256 .bf16} {hw1 hw1' hw2 hw2' hw3 hw3'}
    {i0 : ∀ a, o0 a + S1x1x128x256.size a ≤ S2x4x512x256.size a} {i1 : ∀ a, o1 a + S1x1x128x256.size a ≤ S2x4x512x256.size a}
    {i2 : ∀ a, o2 a + S1x1x128x256.size a ≤ S2x4x512x256.size a} {i3 : ∀ a, o3 a + S1x1x128x256.size a ≤ S2x4x512x256.size a} {l0 l1 l2 l3}
    {iw : ∀ a, (![0, 0] : Fin 2 → Nat) a + S256x512.size a ≤ S256x512.size a} {iu : ∀ a, (![0, 0] : Fin 2 → Nat) a + S512x256.size a ≤ S512x256.size a} {lw lu}
    {ob : Fin 3 → Nat} (hb : ob = ptOff j) {ib : ∀ a, ob a + S1x128x256.size a ≤ S4x128x256.size a} {lb xb mb}
    {pay : (S1x1x128x256.Idx → Elt F .bf16) → (S1x1x128x256.Idx → Elt F .bf16) → (S1x1x128x256.Idx → Elt F .bf16) → (S1x1x128x256.Idx → Elt F .bf16) → (S256x512.Idx → Elt F .f32) → (S512x256.Idx → Elt F .f32) → (S1x128x256.Idx → Elt F .bf16)}
    (hv : pay (B1 m c j) (B1 m (peer c 0) j) (B1 m (peer c 2) j) (B1 m (peer c 1) j) (W2 m c) (U2 m c) = Part m c j)
    {k : PUnit → Prog (TpuEff nD τ sig (Elt F) Λ₀ .tc) α} :
    env m K ⊢ iprop(owesL c D -∗ staged m c -∗ bcP c 1 c j shK (G m) -∗ tri (fun o => rcvIn c 1 j o) -∗ (∃ f, ptP c j f)
      -∗ ((owesL c D ∗ staged m c ∗ inOut m c 1 j ∗ ptP c j (PT m c)) -∗ WP c (k ⟨⟩) Φ)
      -∗ WP c (.op (.load bcM (Rect.unit (s := S2x4x512x256) o0 S1x1x128x256.size i0).toLoadRect l0) fun v0 =>
            .op (.waitDma2 q1 w1 w1' hw1 hw1') fun _ =>
            .op (.load bcM (Rect.unit (s := S2x4x512x256) o1 S1x1x128x256.size i1).toLoadRect l1) fun v1 =>
            .op (.waitDma2 q2 w2 w2' hw2 hw2') fun _ =>
            .op (.load bcM (Rect.unit (s := S2x4x512x256) o2 S1x1x128x256.size i2).toLoadRect l2) fun v2 =>
            .op (.waitDma2 q3 w3 w3' hw3 hw3') fun _ =>
            .op (.load bcM (Rect.unit (s := S2x4x512x256) o3 S1x1x128x256.size i3).toLoadRect l3) fun v3 =>
            .op (.load w2M (Rect.unit (s := S256x512) ![0, 0] S256x512.size iw).toLoadRect lw) fun xw =>
            .op (.load u2M (Rect.unit (s := S512x256) ![0, 0] S512x256.size iu).toLoadRect lu) fun xu =>
            .op (.load ptM (Rect.unit (s := S4x128x256) ob S1x128x256.size ib).toLoadRect lb) fun _ =>
            .op (.store ptM (Rect.unit (s := S4x128x256) ob S1x128x256.size ib) (pay v0 v1 v2 v3 xw xu) Finset.univ xb mb) k) Φ) := by
  unfold staged inOut
  iintro #He HO ⟨HX, HW0, HU0, HW1, HU1, HW, HU⟩ Hg Hr Hb Hk
  iapply (wp_gather m K c 1 j (D := D) hA h0 h1 h2 h3 hq1 hq2 hq3) $$ He HO Hg Hr
  iintro ⟨HO, Hg, Hr⟩
  iapply (wp_load_stage c (mm := w2M) (Memref.readAt_unit_zero (Elt F) cc0_stg5_0 hz2 _ (W2 m c))) $$ HW
  iintro HW
  iapply (wp_load_stage c (mm := u2M) (Memref.readAt_unit_zero (Elt F) cc0_stg6_0 hz2 _ (U2 m c))) $$ HU
  iintro HU
  iapply (wp_store_pt m c j hb (by rw [Bv_one, Bv_one, Bv_one, Bv_one]; exact hv)) $$ Hb
  iintro Hb
  iapply Hk
  isplitl [HO]; · iexact HO
  isplitr [Hb Hg Hr]
  · isplitl [HX]; · iexact HX
    isplitl [HW0]; · iexact HW0
    isplitl [HU0]; · iexact HU0
    isplitl [HW1]; · iexact HW1
    isplitl [HU1]; · iexact HU1
    isplitl [HW]; · iexact HW
    iexact HU
  isplitl [Hg Hr]; · isplitl [Hg] <;> iassumption
  iexact Hb

/-- The send of a partial result, which a device skips for its own rows: both ways meet in the same rest `R`. -/
theorem wp_maybe_send {Φ : α → sProp 𝕄} (j : Dev nD) {D₀ : List (GSem nD τ sig × ℕ)} (D : List (GSem nD τ sig × ℕ)) (hD : D₀ = dueR c j ++ D)
    {p : Prop} [Decidable p] (hp : p ↔ j ≠ c)
    {n : p → Dev nD} (hn : ∀ h, n h = j) {w w' : p → Memref sig .tc .vmem S128x256 .bf16} (hw : ∀ h, w h = ptW j) (hw' : ∀ h, w' h = rsW c)
    {q r : p → DmaSem sig} (hq : ∀ h, q h = srsS j) (hr : ∀ h, r h = rrsS c)
    {hsc : ∀ h : p, _} {hsrc : ∀ h : p, _} {hdst : ∀ h : p, _} {hsem : ∀ h : p, _}
    {R : Prog (TpuEff nD τ sig (Elt F) Λ₀ .tc) α} :
    env m K ⊢ iprop(owesL c D₀ -∗ srsIn c j -∗ ptP c j (PT m c)
      -∗ ((owesL c D ∗ srsOut m c j) -∗ WP c R Φ)
      -∗ WP c (dite p (fun h => .op (.enqueueDma (w h) (.remote (Dev.tc (n h) : Thread nD τ) (w' h) (.dma (q h)) (hsc h)) (.dma (r h)) (hsrc h) (hdst h) (hsem h)) fun _ => R) (fun _ => R)) Φ) := by
  by_cases h : p
  · rw [dif_pos h]
    exact wp_send_rs m K c (hp.1 h) D hD (hn h) (hw h) (hw' h) (hq h) (hr h) (k := fun _ => R)
  · rw [dif_neg h]
    iintro #He HO Hs Hp Hk
    iapply Hk
    iapply (skip_send_rs m c (not_not.1 fun h' => h (hp.2 h')) D hD) $$ [HO Hs Hp]
    isplitl [HO]; · iexact HO
    isplitl [Hs] <;> iassumption

/-- The wait for such a send, skipped by the same device. -/
theorem wp_maybe_wait {Φ : α → sProp 𝕄} (j : Dev nD) {p : Prop} [Decidable p] (hp : p ↔ j ≠ c)
    {q : p → DmaSem sig} (hq : ∀ h, q h = srsS j) {w w' : p → Memref sig .tc .vmem S128x256 .bf16}
    {hw : ∀ h : p, _} {hw' : ∀ h : p, _}
    {R : Prog (TpuEff nD τ sig (Elt F) Λ₀ .tc) α} :
    env m K ⊢ iprop(owesL c [] -∗ srsOut m c j
      -∗ ((owesL c [] ∗ srsZ m c j) -∗ WP c R Φ)
      -∗ WP c (dite p (fun h => .op (.waitDma2 (q h) (w h) (w' h) (hw h) (hw' h)) fun _ => R) (fun _ => R)) Φ) := by
  by_cases h : p
  · rw [dif_pos h]
    exact wp_wait_srs m K c (hp.1 h) (hq h) (k := fun _ => R)
  · rw [dif_neg h]
    iintro #He HO Hs Hk
    imod (skip_wait_srs m K c (not_not.1 fun h' => h (hp.2 h'))) $$ [Hs] with Hz
    · isplitr; · iexact He
      iexact Hs
    iapply Hk
    isplitl [HO] <;> iassumption

/-- The three waits for one chunk's broadcasts. -/
theorem wp_wait_out {Φ : α → sProp 𝕄} (l : Fin 2) (j : Fin 4)
    {q q' q'' : DmaSem sig} (hq : q = sndS l j 1) (hq' : q' = sndS l j 0) (hq'' : q'' = sndS l j 2)
    {w1 w2 w3 w4 w5 w6 : Memref sig .tc .vmem S128x256 .bf16} {h1 h2 h3 h4 h5 h6}
    {k : PUnit → Prog (TpuEff nD τ sig (Elt F) Λ₀ .tc) α} :
    env m K ⊢ iprop(owesL c [] -∗ tri (fun o => sndOut c l j o)
      -∗ ((owesL c [] ∗ tri (fun o => sndZ m c l j o)) -∗ WP c (k ⟨⟩) Φ)
      -∗ WP c (.op (.waitDma2 q w1 w2 h1 h2) fun _ => .op (.waitDma2 q' w3 w4 h3 h4) fun _ => .op (.waitDma2 q'' w5 w6 h5 h6) k) Φ) := by
  unfold tri
  iintro #He HO ⟨H0, H1, H2⟩ Hk
  iapply (wp_wait_snd m K c l j 1 hq) $$ He HO H1
  iintro ⟨HO, H1⟩
  iapply (wp_wait_snd m K c l j 0 hq') $$ He HO H0
  iintro ⟨HO, H0⟩
  iapply (wp_wait_snd m K c l j 2 hq'') $$ He HO H2
  iintro ⟨HO, H2⟩
  iapply Hk
  isplitl [HO]; · iexact HO
  isplitl [H0]; · iexact H0
  isplitl [H1] <;> iassumption

theorem store_out (f w : (cc0_stg7_0 : Ref sig .tc).ty.Contents (Elt F)) {io : ∀ a, (![0, 0] : Fin 2 → Nat) a + S128x256.size a ≤ S128x256.size a} :
    ((oM : Memref sig .tc .vmem S128x256 .f32).access (Rect.unit (s := S128x256) ![0, 0] S128x256.size io) : View sig .tc _ _ _).write (Elt F) f w Finset.univ = w :=
  Memref.write_access_unit_zero_univ (Elt F) cc0_stg7_0 hz2 _ f w

/-- The sum over the devices of the partial results for this device's rows, and the store of the result. -/
theorem wp_result {Φ : α → sProp 𝕄} {o0 o1 o2 o3 : Fin 3 → Nat} (h1 : o1 = ptOff (peer c 0)) (h2 : o2 = ptOff (peer c 2)) (h3 : o3 = ptOff (peer c 1))
    (h0 : o0 = ptOff c)
    {q1 q2 q3 : DmaSem sig} (hq1 : q1 = rrsS (peer c 0)) (hq2 : q2 = rrsS (peer c 2)) (hq3 : q3 = rrsS (peer c 1))
    {w1 w1' w2 w2' w3 w3' : Memref sig .tc .vmem S128x256 .bf16} {hw1 hw1' hw2 hw2' hw3 hw3'}
    {i0 : ∀ a, o0 a + S1x128x256.size a ≤ S4x128x256.size a} {i1 : ∀ a, o1 a + S1x128x256.size a ≤ S4x128x256.size a}
    {i2 : ∀ a, o2 a + S1x128x256.size a ≤ S4x128x256.size a} {i3 : ∀ a, o3 a + S1x128x256.size a ≤ S4x128x256.size a} {l0 l1 l2 l3}
    {io : ∀ a, (![0, 0] : Fin 2 → Nat) a + S128x256.size a ≤ S128x256.size a} {lo xo mo}
    {pay : (S1x128x256.Idx → Elt F .bf16) → (S1x128x256.Idx → Elt F .bf16) → (S1x128x256.Idx → Elt F .bf16) → (S1x128x256.Idx → Elt F .bf16) → (S128x256.Idx → Elt F .f32)}
    (hv : pay (Part m c c) (Part m (peer c 0) c) (Part m (peer c 2) c) (Part m (peer c 1) c) = Out m c)
    {k : PUnit → Prog (TpuEff nD τ sig (Elt F) Λ₀ .tc) α} :
    env m K ⊢ iprop(owesL c [] -∗ ptP c c (PT m c) -∗ tri (fun o => rrsIn c o) -∗ (∃ f, (((c : Thread nD τ).loc cc0_stg7_0) ↦{fullShare} f))
      -∗ ((owesL c [] ∗ ptP c c (PT m c) ∗ tri (fun o => rrsOut m c o) ∗ (((c : Thread nD τ).loc cc0_stg7_0) ↦{fullShare} Out m c)) -∗ WP c (k ⟨⟩) Φ)
      -∗ WP c (.op (.load ptM (Rect.unit (s := S4x128x256) o0 S1x128x256.size i0).toLoadRect l0) fun v0 =>
            .op (.waitDma2 q1 w1 w1' hw1 hw1') fun _ =>
            .op (.load rsM (Rect.unit (s := S4x128x256) o1 S1x128x256.size i1).toLoadRect l1) fun v1 =>
            .op (.waitDma2 q2 w2 w2' hw2 hw2') fun _ =>
            .op (.load rsM (Rect.unit (s := S4x128x256) o2 S1x128x256.size i2).toLoadRect l2) fun v2 =>
            .op (.waitDma2 q3 w3 w3' hw3 hw3') fun _ =>
            .op (.load rsM (Rect.unit (s := S4x128x256) o3 S1x128x256.size i3).toLoadRect l3) fun v3 =>
            .op (.load oM (Rect.unit (s := S128x256) ![0, 0] S128x256.size io).toLoadRect lo) fun _ =>
            .op (.store oM (Rect.unit (s := S128x256) ![0, 0] S128x256.size io) (pay v0 v1 v2 v3) Finset.univ xo mo) k) Φ) := by
  unfold tri
  iintro #He HO Hp ⟨Hr0, Hr1, Hr2⟩ ⟨%f, Ho⟩ Hk
  iapply (wp_load_pt m c c h0) $$ Hp
  iintro Hp
  iapply (wp_recv_rs m K c 0 hq1 h1) $$ He HO Hr0
  iintro ⟨HO, Hr0⟩
  iapply (wp_recv_rs m K c 2 hq2 h2) $$ He HO Hr2
  iintro ⟨HO, Hr2⟩
  iapply (wp_recv_rs m K c 1 hq3 h3) $$ He HO Hr1
  iintro ⟨HO, Hr1⟩
  iapply (wp_load 𝒱₀ (c : Thread nD τ) none Set.univ (m := oM) (Finset.subset_univ _)) $$ Ho
  iintro Ho
  iapply (wp_store 𝒱₀ (c : Thread nD τ) none Set.univ (m := oM) (r := Rect.unit (s := S128x256) ![0, 0] S128x256.size io) (Mk := Finset.univ) (Finset.subset_univ _)) $$ Ho
  iintro Ho
  rw [hv, store_out]
  iapply Hk
  isplitl [HO]; · iexact HO
  isplitl [Hp]; · iexact Hp
  isplitr [Ho]
  · isplitl [Hr0]; · iexact Hr0
    isplitl [Hr1] <;> iassumption
  iexact Ho

end Cert.K
-- ==== Proof.Places.lean ====
/-
# The body's offsets and devices

The closed forms of the offsets that name a peer, of the devices that a transfer is addressed to, and of the conditions
of the last exchange.
-/
module

public import proofs.«01_k».proof.Proof.Cells

@[expose] public section

namespace Cert.K

open Cert.KernelIdeal Cert.KernelIdeal.Gen
open Idealize.ShloMosaic

theorem sem00 : ∀ c : Dev nD, k0_off13 c 1#32 = ![0, (peer c 0).val, 0] ∧ k0_off13 c 2#32 = ![0, (peer c 1).val, 0] ∧ k0_off13 c 3#32 = ![0, (peer c 2).val, 0] := by decide +kernel
theorem ld00 : ∀ c : Dev nD, k0_off15 c 1#32 = bcOff 0 (peer c 0) 0 ∧ k0_off15 c 2#32 = bcOff 0 (peer c 1) 0 ∧ k0_off15 c 3#32 = bcOff 0 (peer c 2) 0 := by decide +kernel
theorem sem01 : ∀ c : Dev nD, k0_off19 c 1#32 = ![0, (peer c 0).val, 1] ∧ k0_off19 c 2#32 = ![0, (peer c 1).val, 1] ∧ k0_off19 c 3#32 = ![0, (peer c 2).val, 1] := by decide +kernel
theorem ld01 : ∀ c : Dev nD, k0_off21 c 1#32 = bcOff 0 (peer c 0) 1 ∧ k0_off21 c 2#32 = bcOff 0 (peer c 1) 1 ∧ k0_off21 c 3#32 = bcOff 0 (peer c 2) 1 := by decide +kernel
theorem sem02 : ∀ c : Dev nD, k0_off25 c 1#32 = ![0, (peer c 0).val, 2] ∧ k0_off25 c 2#32 = ![0, (peer c 1).val, 2] ∧ k0_off25 c 3#32 = ![0, (peer c 2).val, 2] := by decide +kernel
theorem ld02 : ∀ c : Dev nD, k0_off27 c 1#32 = bcOff 0 (peer c 0) 2 ∧ k0_off27 c 2#32 = bcOff 0 (peer c 1) 2 ∧ k0_off27 c 3#32 = bcOff 0 (peer c 2) 2 := by decide +kernel
theorem sem03 : ∀ c : Dev nD, k0_off31 c 1#32 = ![0, (peer c 0).val, 3] ∧ k0_off31 c 2#32 = ![0, (peer c 1).val, 3] ∧ k0_off31 c 3#32 = ![0, (peer c 2).val, 3] := by decide +kernel
theorem ld03 : ∀ c : Dev nD, k0_off33 c 1#32 = bcOff 0 (peer c 0) 3 ∧ k0_off33 c 2#32 = bcOff 0 (peer c 1) 3 ∧ k0_off33 c 3#32 = bcOff 0 (peer c 2) 3 := by decide +kernel
theorem sem10 : ∀ c : Dev nD, k0_off37 c 1#32 = ![1, (peer c 0).val, 0] ∧ k0_off37 c 2#32 = ![1, (peer c 1).val, 0] ∧ k0_off37 c 3#32 = ![1, (peer c 2).val, 0] := by decide +kernel
theorem ld10 : ∀ c : Dev nD, k0_off39 c 1#32 = bcOff 1 (peer c 0) 0 ∧ k0_off39 c 2#32 = bcOff 1 (peer c 1) 0 ∧ k0_off39 c 3#32 = bcOff 1 (peer c 2) 0 := by decide +kernel
theorem sem11 : ∀ c : Dev nD, k0_off42 c 1#32 = ![1, (peer c 0).val, 1] ∧ k0_off42 c 2#32 = ![1, (peer c 1).val, 1] ∧ k0_off42 c 3#32 = ![1, (peer c 2).val, 1] := by decide +kernel
theorem ld11 : ∀ c : Dev nD, k0_off44 c 1#32 = bcOff 1 (peer c 0) 1 ∧ k0_off44 c 2#32 = bcOff 1 (peer c 1) 1 ∧ k0_off44 c 3#32 = bcOff 1 (peer c 2) 1 := by decide +kernel
theorem sem12 : ∀ c : Dev nD, k0_off47 c 1#32 = ![1, (peer c 0).val, 2] ∧ k0_off47 c 2#32 = ![1, (peer c 1).val, 2] ∧ k0_off47 c 3#32 = ![1, (peer c 2).val, 2] := by decide +kernel
theorem ld12 : ∀ c : Dev nD, k0_off49 c 1#32 = bcOff 1 (peer c 0) 2 ∧ k0_off49 c 2#32 = bcOff 1 (peer c 1) 2 ∧ k0_off49 c 3#32 = bcOff 1 (peer c 2) 2 := by decide +kernel
theorem sem13 : ∀ c : Dev nD, k0_off52 c 1#32 = ![1, (peer c 0).val, 3] ∧ k0_off52 c 2#32 = ![1, (peer c 1).val, 3] ∧ k0_off52 c 3#32 = ![1, (peer c 2).val, 3] := by decide +kernel
theorem ld13 : ∀ c : Dev nD, k0_off54 c 1#32 = bcOff 1 (peer c 0) 3 ∧ k0_off54 c 2#32 = bcOff 1 (peer c 1) 3 ∧ k0_off54 c 3#32 = bcOff 1 (peer c 2) 3 := by decide +kernel
theorem semR : ∀ c : Dev nD, k0_off58 c 1#32 = ![(peer c 0).val] ∧ k0_off58 c 2#32 = ![(peer c 1).val] ∧ k0_off58 c 3#32 = ![(peer c 2).val] := by decide +kernel
theorem ldR : ∀ c : Dev nD, k0_off60 c 1#32 = ptOff (peer c 0) ∧ k0_off60 c 2#32 = ptOff (peer c 1) ∧ k0_off60 c 3#32 = ptOff (peer c 2) := by decide +kernel

theorem devB : ∀ c : Dev nD, (⟨k0_dev1 c, k0_dev1_lt c⟩ : Dev nD) = peer c 0 ∧ (⟨k0_dev2 c, k0_dev2_lt c⟩ : Dev nD) = peer c 1 ∧ (⟨k0_dev3 c, k0_dev3_lt c⟩ : Dev nD) = peer c 2 := by decide +kernel
theorem dev00 : ∀ c : Dev nD, (⟨k0_dev4 c, k0_dev4_lt c⟩ : Dev nD) = peer c 1 ∧ (⟨k0_dev5 c, k0_dev5_lt c⟩ : Dev nD) = peer c 0 ∧ (⟨k0_dev6 c, k0_dev6_lt c⟩ : Dev nD) = peer c 2 := by decide +kernel
theorem dev01 : ∀ c : Dev nD, (⟨k0_dev7 c, k0_dev7_lt c⟩ : Dev nD) = peer c 1 ∧ (⟨k0_dev8 c, k0_dev8_lt c⟩ : Dev nD) = peer c 0 ∧ (⟨k0_dev9 c, k0_dev9_lt c⟩ : Dev nD) = peer c 2 := by decide +kernel
theorem dev02 : ∀ c : Dev nD, (⟨k0_dev10 c, k0_dev10_lt c⟩ : Dev nD) = peer c 1 ∧ (⟨k0_dev11 c, k0_dev11_lt c⟩ : Dev nD) = peer c 0 ∧ (⟨k0_dev12 c, k0_dev12_lt c⟩ : Dev nD) = peer c 2 := by decide +kernel
theorem dev03 : ∀ c : Dev nD, (⟨k0_dev13 c, k0_dev13_lt c⟩ : Dev nD) = peer c 1 ∧ (⟨k0_dev14 c, k0_dev14_lt c⟩ : Dev nD) = peer c 0 ∧ (⟨k0_dev15 c, k0_dev15_lt c⟩ : Dev nD) = peer c 2 := by decide +kernel
theorem dev10 : ∀ c : Dev nD, (⟨k0_dev16 c, k0_dev16_lt c⟩ : Dev nD) = peer c 1 ∧ (⟨k0_dev17 c, k0_dev17_lt c⟩ : Dev nD) = peer c 0 ∧ (⟨k0_dev18 c, k0_dev18_lt c⟩ : Dev nD) = peer c 2 := by decide +kernel
theorem dev11 : ∀ c : Dev nD, (⟨k0_dev19 c, k0_dev19_lt c⟩ : Dev nD) = peer c 1 ∧ (⟨k0_dev20 c, k0_dev20_lt c⟩ : Dev nD) = peer c 0 ∧ (⟨k0_dev21 c, k0_dev21_lt c⟩ : Dev nD) = peer c 2 := by decide +kernel
theorem dev12 : ∀ c : Dev nD, (⟨k0_dev22 c, k0_dev22_lt c⟩ : Dev nD) = peer c 1 ∧ (⟨k0_dev23 c, k0_dev23_lt c⟩ : Dev nD) = peer c 0 ∧ (⟨k0_dev24 c, k0_dev24_lt c⟩ : Dev nD) = peer c 2 := by decide +kernel
theorem dev13 : ∀ c : Dev nD, (⟨k0_dev25 c, k0_dev25_lt c⟩ : Dev nD) = peer c 1 ∧ (⟨k0_dev26 c, k0_dev26_lt c⟩ : Dev nD) = peer c 0 ∧ (⟨k0_dev27 c, k0_dev27_lt c⟩ : Dev nD) = peer c 2 := by decide +kernel

theorem devR0 : ∀ (c : Dev nD) (h : k0_cond1 c = 1#1), (⟨k0_dev28, k0_dev28_lt c h⟩ : Dev nD) = 0 := by decide +kernel
theorem cond0 : ∀ c : Dev nD, k0_cond1 c = 1#1 ↔ (0 : Dev nD) ≠ c := by decide +kernel
theorem condW0 : ∀ c : Dev nD, k0_cond5 c = 1#1 ↔ (0 : Dev nD) ≠ c := by decide +kernel
theorem devR1 : ∀ (c : Dev nD) (h : k0_cond2 c = 1#1), (⟨k0_dev29, k0_dev29_lt c h⟩ : Dev nD) = 1 := by decide +kernel
theorem cond1 : ∀ c : Dev nD, k0_cond2 c = 1#1 ↔ (1 : Dev nD) ≠ c := by decide +kernel
theorem condW1 : ∀ c : Dev nD, k0_cond6 c = 1#1 ↔ (1 : Dev nD) ≠ c := by decide +kernel
theorem devR2 : ∀ (c : Dev nD) (h : k0_cond3 c = 1#1), (⟨k0_dev30, k0_dev30_lt c h⟩ : Dev nD) = 2 := by decide +kernel
theorem cond2 : ∀ c : Dev nD, k0_cond3 c = 1#1 ↔ (2 : Dev nD) ≠ c := by decide +kernel
theorem condW2 : ∀ c : Dev nD, k0_cond7 c = 1#1 ↔ (2 : Dev nD) ≠ c := by decide +kernel
theorem devR3 : ∀ (c : Dev nD) (h : k0_cond4 c = 1#1), (⟨k0_dev31, k0_dev31_lt c h⟩ : Dev nD) = 3 := by decide +kernel
theorem cond3 : ∀ c : Dev nD, k0_cond4 c = 1#1 ↔ (3 : Dev nD) ≠ c := by decide +kernel
theorem condW3 : ∀ c : Dev nD, k0_cond8 c = 1#1 ↔ (3 : Dev nD) ≠ c := by decide +kernel

end Cert.K
-- ==== Proof.Body.lean ====
/-
# The body, run once at a symbolic device

The pieces device `c` starts from (`bodyPre`) and ends with (`bodyPost`), and the run between them, one rule per step.
-/
module

public import proofs.«01_k».proof.Proof.Steps
public import proofs.«01_k».proof.Proof.Chunks
public import proofs.«01_k».proof.Proof.Places

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CX → ℕ) (c : Dev nD)

/-- The tokens of slot `j` of the last exchange; the landing slot itself comes with the barrier. -/
def srsTok (j : Dev nD) : sProp 𝕄 :=
  iprop(atPos ER (cellD c (srsS j)) 0 ∅ 0
    ∗ if j = c then iprop(emp) else iprop(dutyTok ER (cellD c (srsS j)) 0 c ∗ dutyTok ER (cellD j (rrsS c)) 0 c))

def bodyPre : sProp 𝕄 :=
  iprop(env m K ∗ owesL c (dues c) ∗ atPos ER (barCell c) 0 ∅ 0 ∗ cred (tallyAt (barCell c) () 3)
    ∗ tri (fun o => dutyTok ER (barCell (peer c o)) 0 c) ∗ tri (fun o => land c (peer c o))
    ∗ oct (fun l j => tri fun o => sndIn c l j o) ∗ oct (fun l j => iprop(∃ f, bcP c l c j fullShare f))
    ∗ oct (fun l j => tri fun o => rcvIn c l j o)
    ∗ quad (fun j => iprop(∃ f, ptP c j f)) ∗ quad (fun j => srsTok c j) ∗ tri (fun o => rrsIn c o)
    ∗ staged m c ∗ ∃ f, (((c : Thread nD τ).loc cc0_stg7_0) ↦{fullShare} f))

def bodyPost : sProp 𝕄 :=
  iprop(owesL c [] ∗ semVal (barCell c) 0
    ∗ oct (fun l j => tri fun o => sndZ m c l j o) ∗ oct (fun l j => inOut m c l j)
    ∗ quad (fun j => srsZ m c j) ∗ tri (fun o => rrsOut m c o)
    ∗ staged m c ∗ (((c : Thread nD τ).loc cc0_stg7_0) ↦{fullShare} Out m c))

theorem tri_eq (P : Fin 3 → sProp 𝕄) : bigSep Finset.univ P = tri P := by
  rw [bigSep_univ_eq_bigSepL [0, 1, 2] (by decide) (by decide)]; rfl
theorem quad_eq (P : Fin 4 → sProp 𝕄) : bigSep Finset.univ P = quad P := by
  rw [bigSep_univ_eq_bigSepL [0, 1, 2, 3] (by decide) (by decide)]; rfl
theorem oct_eq (P : Fin 2 × Fin 4 → sProp 𝕄) : bigSep Finset.univ P = oct (fun l j => P (l, j)) := by
  rw [bigSep_univ_eq_bigSepL [(0, 0), (0, 1), (0, 2), (0, 3), (1, 0), (1, 1), (1, 2), (1, 3)] (by decide) (by decide)]; rfl

/-- Everything over the devices other than `c` is everything over `c`'s three peers. -/
theorem erase_eq_tri (P : Dev nD → sProp 𝕄) : bigSep (Finset.univ.erase c) P = tri fun o => P (peer c o) := by
  rw [bigSep_eq_bigSepL_of_eq [peer c 0, peer c 1, peer c 2] (by revert c; decide) (by revert c; decide)]; rfl

/-- Nothing at `c`, and everything at its peers. -/
theorem ite_eq_tri (P : Dev nD → sProp 𝕄) : bigSep Finset.univ (fun j : Dev nD => if j = c then iprop(emp) else P j) = tri fun o => P (peer c o) := by
  rw [BI.bigSep_erase (Finset.mem_univ c), if_pos rfl, ← erase_eq_tri, bigSep_congr fun j hj => if_neg (Finset.ne_of_mem_erase hj)]
  exact equiv_iff.mp BI.emp_sep

/-- What the barrier hands over, by what it is used for. -/
theorem landings : (bigSep (Finset.univ.erase c) fun s => (land s c : sProp 𝕄))
    ⊢ iprop(oct (fun l j => tri fun o => iprop(∃ f, bcP (peer c o) l c j fullShare f)) ∗ tri fun o => iprop(∃ f, rsP (peer c o) c f)) := by
  unfold land
  rw [bigSep_sep', erase_eq_tri c (fun s => iprop(∃ f, rsP s c f)), erase_eq_tri, ← tri_eq, bigSep_univ_comm,
    ← oct_eq (fun lj => tri fun o => iprop(∃ f, bcP (peer c o) lj.1 c lj.2 fullShare f))]
  exact sep_mono_left (Entails.of_eq (bigSep_congr fun lj _ => tri_eq _))

theorem slot (j : Dev nD) : iprop(srsTok c j ∗ if j = c then iprop(emp) else iprop(∃ f, rsP (F := F) j c f)) ⊢ srsIn c j := by
  unfold srsTok srsIn
  by_cases h : j = c
  · rw [if_pos h, if_pos h, if_pos h]
    iintro ⟨H, -⟩; iexact H
  · rw [if_neg h, if_neg h, if_neg h]
    iintro ⟨⟨H1, H2, H3⟩, H4⟩
    isplitl [H1]; · iexact H1
    isplitl [H2]; · iexact H2
    isplitl [H3] <;> iassumption

theorem slots : iprop(quad (fun j => srsTok c j) ∗ tri fun o => iprop(∃ f, rsP (F := F) (peer c o) c f)) ⊢ quad (fun j => srsIn c j) := by
  rw [← ite_eq_tri c (fun s => iprop(∃ f, rsP s c f)), ← quad_eq, ← quad_eq, ← bigSep_sep']
  exact bigSep_mono fun j _ => slot c j

/-- The landing places granted by the barrier complete what each broadcast needs. -/
theorem outIns : iprop(oct (fun l j => iprop(∃ f, bcP (F := F) c l c j fullShare f)) ∗ oct (fun l j => tri fun o => sndIn c l j o)
      ∗ oct (fun l j => tri fun o => iprop(∃ f, bcP (peer c o) l c j fullShare f)))
    ⊢ oct (fun l j => outIn c l j) := by
  unfold outIn
  rw [← oct_eq (fun lj => iprop(∃ f, bcP c lj.1 c lj.2 fullShare f)), ← oct_eq (fun lj => tri fun o => sndIn c lj.1 lj.2 o),
    ← oct_eq (fun lj => tri fun o => iprop(∃ f, bcP (peer c o) lj.1 c lj.2 fullShare f)), ← bigSep_sep', ← bigSep_sep', oct_eq]

theorem own_part_aux (R : sProp 𝕄) : iprop(srsOut m c c ∗ R) ⊢ iprop(ptP c c (PT m c) ∗ (ptP c c (PT m c) -∗ srsOut m c c ∗ R)) := by
  unfold srsOut
  rw [if_pos rfl]
  iintro ⟨⟨Ha, Hp⟩, HR⟩
  isplitl [Hp]; · iexact Hp
  iintro Hp
  isplitr [HR]
  · isplitl [Ha] <;> iassumption
  iexact HR

/-- The device's own partial result, taken out of what the sends leave and put back. -/
theorem own_part : quad (fun j => srsOut m c j) ⊢ iprop(ptP c c (PT m c) ∗ (ptP c c (PT m c) -∗ quad fun j => srsOut m c j)) := by
  rw [← quad_eq, BI.bigSep_erase (Finset.mem_univ c)]
  exact own_part_aux m c _

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6

/-- What follows a conditional statement follows each of its ways. -/
theorem if_bind {E : Type → Type} {α β : Type} {p : Prop} [Decidable p] (A : p → Prog E α) (B : ¬p → Prog E α) (k : α → Prog E β) :
    (dite p A B >>= k) = dite p (fun h => A h >>= k) (fun h => B h >>= k) := by
  by_cases h : p
  · rw [dif_pos h, dif_pos h]
  · rw [dif_neg h, dif_neg h]

set_option maxHeartbeats 4000000 in
theorem sound_body (Kt : PUnit → sProp 𝕄) :
    iprop(bodyPre m K c ∗ (bodyPost m c -∗ Kt ⟨⟩)) ⊢ WP c theBody Kt := by
  unfold theBody
  simp only [cc0_body_eq_skeleton, cc0_body_skel, k0_part54_eq_skeleton, k0_part54_skel, k0_part1_eq_skeleton, k0_part1_skel, k0_part2_eq_skeleton, k0_part2_skel,
    semSignalWord, semWaitWord, Prog.lift, Prog.bind_op, Prog.bind_ret, Prog.pure_eq_ret, wp_deviceId]
  unfold bodyPre
  iintro ⟨⟨#He, HO, HaB, HcB, HtB, Hl, Hs, Hb, Hr, Hp, HQ, HR, HS, HY⟩, Hk⟩
  unfold dues
  ihave HtB := (Entails.of_eq (show tri (fun o => dutyTok ER (barCell (peer c o)) 0 c) = iprop(dutyTok ER (barCell (peer c 0)) 0 c ∗ dutyTok ER (barCell (peer c 1)) 0 c ∗ dutyTok ER (barCell (peer c 2)) 0 c) from rfl)) $$ HtB
  icases HtB with ⟨HtB0, HtB1, HtB2⟩
  ihave Hl := (Entails.of_eq (show tri (fun o => land (F := F) c (peer c o)) = iprop(land c (peer c 0) ∗ land c (peer c 1) ∗ land c (peer c 2)) from rfl)) $$ Hl
  icases Hl with ⟨Hl0, Hl1, Hl2⟩
  iapply (wp_signal_peer m K c 0 (D₀ := dueBar c ++ D00 c) ((barCell (peer c 1), 1) :: (barCell (peer c 2), 1) :: D00 c) rfl (devB c).1) $$ He HO HtB0 Hl0
  iintro HO
  iapply (wp_signal_peer m K c 1 (D₀ := (barCell (peer c 1), 1) :: (barCell (peer c 2), 1) :: D00 c) ((barCell (peer c 2), 1) :: D00 c) rfl (devB c).2.1) $$ He HO HtB1 Hl1
  iintro HO
  iapply (wp_signal_peer m K c 2 (D₀ := (barCell (peer c 2), 1) :: D00 c) (D00 c) rfl (devB c).2.2) $$ He HO HtB2 Hl2
  iintro HO
  iapply (wp_barrier m K c (D00 c) (above_D00 c (by decide))) $$ He HO HaB HcB
  iintro ⟨HO, HzB, HL⟩
  ihave HL := (landings c) $$ HL
  icases HL with ⟨HL, HL'⟩
  ihave HQ := (slots c) $$ [HQ HL']
  · isplitl [HQ] <;> iassumption
  ihave HC := (outIns c) $$ [Hb Hs HL]
  · isplitl [Hb]; · iexact Hb
    isplitl [Hs] <;> iassumption
  unfold oct quad
  icases HC with ⟨C00, C01, C02, C03, C10, C11, C12, C13⟩
  icases HQ with ⟨Q0, Q1, Q2, Q3⟩
  icases Hp with ⟨P0, P1, P2, P3⟩
  icases Hr with ⟨A00, A01, A02, A03, A10, A11, A12, A13⟩
  simp only [k0_part3_eq_skeleton, k0_part3_skel, k0_part4_eq_skeleton, k0_part4_skel,
    Prog.lift, Prog.bind_op, Prog.bind_ret, Prog.pure_eq_ret]
  iapply (wp_first m K c 0 (D₀ := D00 c) (D01 c) rfl rfl (k0_off1_eq c) (Bv_zero m c 0).symm (dev00 c).1 (dev00 c).2.1 (dev00 c).2.2
    (bcW_of (k0_off3_eq c) _ _ _) (bcW_of (k0_off3_eq c) _ _ _) (bcW_of (k0_off3_eq c) _ _ _)
    (snd_sem 0 0 1 rfl _ _) (snd_sem 0 0 0 rfl _ _) (snd_sem 0 0 2 rfl _ _) (rcv_sem 0 c 0 (k0_off2_eq c) _ _) (rcv_sem 0 c 0 (k0_off2_eq c) _ _) (rcv_sem 0 c 0 (k0_off2_eq c) _ _)) $$ He HO HS C00
  iintro ⟨HO, HS, S00, B00⟩
  simp only [k0_part5_eq_skeleton, k0_part5_skel, k0_part6_eq_skeleton, k0_part6_skel, k0_part7_eq_skeleton, k0_part7_skel,
    Prog.lift, Prog.bind_op, Prog.bind_ret, Prog.pure_eq_ret]
  iapply (wp_first m K c 1 (D₀ := D01 c) (D02 c) rfl rfl (k0_off4_eq c) (Bv_zero m c 1).symm (dev01 c).1 (dev01 c).2.1 (dev01 c).2.2
    (bcW_of (k0_off6_eq c) _ _ _) (bcW_of (k0_off6_eq c) _ _ _) (bcW_of (k0_off6_eq c) _ _ _)
    (snd_sem 0 1 1 rfl _ _) (snd_sem 0 1 0 rfl _ _) (snd_sem 0 1 2 rfl _ _) (rcv_sem 0 c 1 (k0_off5_eq c) _ _) (rcv_sem 0 c 1 (k0_off5_eq c) _ _) (rcv_sem 0 c 1 (k0_off5_eq c) _ _)) $$ He HO HS C01
  iintro ⟨HO, HS, S01, B01⟩
  simp only [k0_part8_eq_skeleton, k0_part8_skel, k0_part9_eq_skeleton, k0_part9_skel, k0_part10_eq_skeleton, k0_part10_skel,
    Prog.lift, Prog.bind_op, Prog.bind_ret, Prog.pure_eq_ret]
  iapply (wp_first m K c 2 (D₀ := D02 c) (D03 c) rfl rfl (k0_off7_eq c) (Bv_zero m c 2).symm (dev02 c).1 (dev02 c).2.1 (dev02 c).2.2
    (bcW_of (k0_off9_eq c) _ _ _) (bcW_of (k0_off9_eq c) _ _ _) (bcW_of (k0_off9_eq c) _ _ _)
    (snd_sem 0 2 1 rfl _ _) (snd_sem 0 2 0 rfl _ _) (snd_sem 0 2 2 rfl _ _) (rcv_sem 0 c 2 (k0_off8_eq c) _ _) (rcv_sem 0 c 2 (k0_off8_eq c) _ _) (rcv_sem 0 c 2 (k0_off8_eq c) _ _)) $$ He HO HS C02
  iintro ⟨HO, HS, S02, B02⟩
  simp only [k0_part11_eq_skeleton, k0_part11_skel, k0_part12_eq_skeleton, k0_part12_skel,
    Prog.lift, Prog.bind_op, Prog.bind_ret, Prog.pure_eq_ret]
  iapply (wp_first m K c 3 (D₀ := D03 c) (D10 c) rfl rfl (k0_off10_eq c) (Bv_zero m c 3).symm (dev03 c).1 (dev03 c).2.1 (dev03 c).2.2
    (bcW_of (k0_off12_eq c) _ _ _) (bcW_of (k0_off12_eq c) _ _ _) (bcW_of (k0_off12_eq c) _ _ _)
    (snd_sem 0 3 1 rfl _ _) (snd_sem 0 3 0 rfl _ _) (snd_sem 0 3 2 rfl _ _) (rcv_sem 0 c 3 (k0_off11_eq c) _ _) (rcv_sem 0 c 3 (k0_off11_eq c) _ _) (rcv_sem 0 c 3 (k0_off11_eq c) _ _)) $$ He HO HS C03
  iintro ⟨HO, HS, S03, B03⟩
  simp only [k0_part13_eq_skeleton, k0_part13_skel, k0_part14_eq_skeleton, k0_part14_skel, k0_part15_eq_skeleton, k0_part15_skel, k0_part16_eq_skeleton, k0_part16_skel, k0_part17_eq_skeleton, k0_part17_skel,
    Prog.lift, Prog.bind_op, Prog.bind_ret, Prog.pure_eq_ret]
  iapply (wp_second m K c 0 (D₀ := D10 c) (D11 c) rfl (above_D10 c (by decide)) (k0_off1_eq c) (ld00 c).1 (ld00 c).2.2 (ld00 c).2.1
    (rcv_sem 0 (peer c 0) 0 (sem00 c).1 _ _) (rcv_sem 0 (peer c 2) 0 (sem00 c).2.2 _ _) (rcv_sem 0 (peer c 1) 0 (sem00 c).2.1 _ _)
    (k0_off16_eq c) rfl (dev10 c).1 (dev10 c).2.1 (dev10 c).2.2
    (bcW_of (k0_off18_eq c) _ _ _) (bcW_of (k0_off18_eq c) _ _ _) (bcW_of (k0_off18_eq c) _ _ _)
    (snd_sem 1 0 1 rfl _ _) (snd_sem 1 0 0 rfl _ _) (snd_sem 1 0 2 rfl _ _) (rcv_sem 1 c 0 (k0_off17_eq c) _ _) (rcv_sem 1 c 0 (k0_off17_eq c) _ _) (rcv_sem 1 c 0 (k0_off17_eq c) _ _)) $$ He HO HS B00 A00 C10
  iintro ⟨HO, HS, T00, S10, B10⟩
  simp only [k0_part18_eq_skeleton, k0_part18_skel, k0_part19_eq_skeleton, k0_part19_skel, k0_part20_eq_skeleton, k0_part20_skel, k0_part21_eq_skeleton, k0_part21_skel, k0_part22_eq_skeleton, k0_part22_skel,
    Prog.lift, Prog.bind_op, Prog.bind_ret, Prog.pure_eq_ret]
  iapply (wp_second m K c 1 (D₀ := D11 c) (D12 c) rfl (above_D11 c (by decide)) (k0_off4_eq c) (ld01 c).1 (ld01 c).2.2 (ld01 c).2.1
    (rcv_sem 0 (peer c 0) 1 (sem01 c).1 _ _) (rcv_sem 0 (peer c 2) 1 (sem01 c).2.2 _ _) (rcv_sem 0 (peer c 1) 1 (sem01 c).2.1 _ _)
    (k0_off22_eq c) rfl (dev11 c).1 (dev11 c).2.1 (dev11 c).2.2
    (bcW_of (k0_off24_eq c) _ _ _) (bcW_of (k0_off24_eq c) _ _ _) (bcW_of (k0_off24_eq c) _ _ _)
    (snd_sem 1 1 1 rfl _ _) (snd_sem 1 1 0 rfl _ _) (snd_sem 1 1 2 rfl _ _) (rcv_sem 1 c 1 (k0_off23_eq c) _ _) (rcv_sem 1 c 1 (k0_off23_eq c) _ _) (rcv_sem 1 c 1 (k0_off23_eq c) _ _)) $$ He HO HS B01 A01 C11
  iintro ⟨HO, HS, T01, S11, B11⟩
  simp only [k0_part23_eq_skeleton, k0_part23_skel, k0_part24_eq_skeleton, k0_part24_skel, k0_part25_eq_skeleton, k0_part25_skel, k0_part26_eq_skeleton, k0_part26_skel, k0_part27_eq_skeleton, k0_part27_skel,
    Prog.lift, Prog.bind_op, Prog.bind_ret, Prog.pure_eq_ret]
  iapply (wp_second m K c 2 (D₀ := D12 c) (D13 c) rfl (above_D12 c (by decide)) (k0_off7_eq c) (ld02 c).1 (ld02 c).2.2 (ld02 c).2.1
    (rcv_sem 0 (peer c 0) 2 (sem02 c).1 _ _) (rcv_sem 0 (peer c 2) 2 (sem02 c).2.2 _ _) (rcv_sem 0 (peer c 1) 2 (sem02 c).2.1 _ _)
    (k0_off28_eq c) rfl (dev12 c).1 (dev12 c).2.1 (dev12 c).2.2
    (bcW_of (k0_off30_eq c) _ _ _) (bcW_of (k0_off30_eq c) _ _ _) (bcW_of (k0_off30_eq c) _ _ _)
    (snd_sem 1 2 1 rfl _ _) (snd_sem 1 2 0 rfl _ _) (snd_sem 1 2 2 rfl _ _) (rcv_sem 1 c 2 (k0_off29_eq c) _ _) (rcv_sem 1 c 2 (k0_off29_eq c) _ _) (rcv_sem 1 c 2 (k0_off29_eq c) _ _)) $$ He HO HS B02 A02 C12
  iintro ⟨HO, HS, T02, S12, B12⟩
  simp only [k0_part28_eq_skeleton, k0_part28_skel, k0_part29_eq_skeleton, k0_part29_skel, k0_part30_eq_skeleton, k0_part30_skel, k0_part31_eq_skeleton, k0_part31_skel, k0_part32_eq_skeleton, k0_part32_skel,
    Prog.lift, Prog.bind_op, Prog.bind_ret, Prog.pure_eq_ret]
  iapply (wp_second m K c 3 (D₀ := D13 c) (R0 c) rfl (above_D13 c (by decide)) (k0_off10_eq c) (ld03 c).1 (ld03 c).2.2 (ld03 c).2.1
    (rcv_sem 0 (peer c 0) 3 (sem03 c).1 _ _) (rcv_sem 0 (peer c 2) 3 (sem03 c).2.2 _ _) (rcv_sem 0 (peer c 1) 3 (sem03 c).2.1 _ _)
    (k0_off34_eq c) rfl (dev13 c).1 (dev13 c).2.1 (dev13 c).2.2
    (bcW_of (k0_off36_eq c) _ _ _) (bcW_of (k0_off36_eq c) _ _ _) (bcW_of (k0_off36_eq c) _ _ _)
    (snd_sem 1 3 1 rfl _ _) (snd_sem 1 3 0 rfl _ _) (snd_sem 1 3 2 rfl _ _) (rcv_sem 1 c 3 (k0_off35_eq c) _ _) (rcv_sem 1 c 3 (k0_off35_eq c) _ _) (rcv_sem 1 c 3 (k0_off35_eq c) _ _)) $$ He HO HS B03 A03 C13
  iintro ⟨HO, HS, T03, S13, B13⟩
  simp only [k0_part33_eq_skeleton, k0_part33_skel, k0_part34_eq_skeleton, k0_part34_skel, k0_part35_eq_skeleton, k0_part35_skel,
    Prog.lift, Prog.bind_op, Prog.bind_ret, Prog.pure_eq_ret, if_bind]
  iapply (wp_third m K c 0 (D := R0 c) (above_R0 c (by decide)) (k0_off16_eq c) (ld10 c).1 (ld10 c).2.2 (ld10 c).2.1
    (rcv_sem 1 (peer c 0) 0 (sem10 c).1 _ _) (rcv_sem 1 (peer c 2) 0 (sem10 c).2.2 _ _) (rcv_sem 1 (peer c 1) 0 (sem10 c).2.1 _ _) (ob := ![0, 0, 0]) rfl rfl) $$ He HO HS B10 A10 P0
  iintro ⟨HO, HS, T10, P0⟩
  iapply (wp_maybe_send m K c 0 (D₀ := R0 c) (R1 c) rfl (cond0 c) (devR0 c) (fun _ => ptW_of (j := 0) rfl _ _ _) (fun h => rsW_of (k0_off41_eq c) _ _ _)
    (fun _ => srs_sem 0 rfl _ _) (fun h => rrs_sem c (k0_off40_eq c) _ _)) $$ He HO Q0 P0
  iintro ⟨HO, Q0⟩
  simp only [k0_part36_eq_skeleton, k0_part36_skel, k0_part37_eq_skeleton, k0_part37_skel, k0_part38_eq_skeleton, k0_part38_skel,
    Prog.lift, Prog.bind_op, Prog.bind_ret, Prog.pure_eq_ret, if_bind]
  iapply (wp_third m K c 1 (D := R1 c) (above_R1 c (by decide)) (k0_off22_eq c) (ld11 c).1 (ld11 c).2.2 (ld11 c).2.1
    (rcv_sem 1 (peer c 0) 1 (sem11 c).1 _ _) (rcv_sem 1 (peer c 2) 1 (sem11 c).2.2 _ _) (rcv_sem 1 (peer c 1) 1 (sem11 c).2.1 _ _) (ob := ![1, 0, 0]) rfl rfl) $$ He HO HS B11 A11 P1
  iintro ⟨HO, HS, T11, P1⟩
  iapply (wp_maybe_send m K c 1 (D₀ := R1 c) (R2 c) rfl (cond1 c) (devR1 c) (fun _ => ptW_of (j := 1) rfl _ _ _) (fun h => rsW_of (k0_off46_eq c) _ _ _)
    (fun _ => srs_sem 1 rfl _ _) (fun h => rrs_sem c (k0_off45_eq c) _ _)) $$ He HO Q1 P1
  iintro ⟨HO, Q1⟩
  simp only [k0_part39_eq_skeleton, k0_part39_skel, k0_part40_eq_skeleton, k0_part40_skel, k0_part41_eq_skeleton, k0_part41_skel,
    Prog.lift, Prog.bind_op, Prog.bind_ret, Prog.pure_eq_ret, if_bind]
  iapply (wp_third m K c 2 (D := R2 c) (above_R2 c (by decide)) (k0_off28_eq c) (ld12 c).1 (ld12 c).2.2 (ld12 c).2.1
    (rcv_sem 1 (peer c 0) 2 (sem12 c).1 _ _) (rcv_sem 1 (peer c 2) 2 (sem12 c).2.2 _ _) (rcv_sem 1 (peer c 1) 2 (sem12 c).2.1 _ _) (ob := ![2, 0, 0]) rfl rfl) $$ He HO HS B12 A12 P2
  iintro ⟨HO, HS, T12, P2⟩
  iapply (wp_maybe_send m K c 2 (D₀ := R2 c) (R3 c) rfl (cond2 c) (devR2 c) (fun _ => ptW_of (j := 2) rfl _ _ _) (fun h => rsW_of (k0_off51_eq c) _ _ _)
    (fun _ => srs_sem 2 rfl _ _) (fun h => rrs_sem c (k0_off50_eq c) _ _)) $$ He HO Q2 P2
  iintro ⟨HO, Q2⟩
  simp only [k0_part42_eq_skeleton, k0_part42_skel, k0_part43_eq_skeleton, k0_part43_skel, k0_part44_eq_skeleton, k0_part44_skel,
    Prog.lift, Prog.bind_op, Prog.bind_ret, Prog.pure_eq_ret, if_bind]
  iapply (wp_third m K c 3 (D := R3 c) (above_R3 c (by decide)) (k0_off34_eq c) (ld13 c).1 (ld13 c).2.2 (ld13 c).2.1
    (rcv_sem 1 (peer c 0) 3 (sem13 c).1 _ _) (rcv_sem 1 (peer c 2) 3 (sem13 c).2.2 _ _) (rcv_sem 1 (peer c 1) 3 (sem13 c).2.1 _ _) (ob := ![3, 0, 0]) rfl rfl) $$ He HO HS B13 A13 P3
  iintro ⟨HO, HS, T13, P3⟩
  iapply (wp_maybe_send m K c 3 (D₀ := R3 c) [] rfl (cond3 c) (devR3 c) (fun _ => ptW_of (j := 3) rfl _ _ _) (fun h => rsW_of (k0_off56_eq c) _ _ _)
    (fun _ => srs_sem 3 rfl _ _) (fun h => rrs_sem c (k0_off55_eq c) _ _)) $$ He HO Q3 P3
  iintro ⟨HO, Q3⟩
  ihave HQ := (own_part m c) $$ [Q0 Q1 Q2 Q3]
  · unfold quad
    isplitl [Q0]; · iexact Q0
    isplitl [Q1]; · iexact Q1
    isplitl [Q2] <;> iassumption
  icases HQ with ⟨HP, HQ⟩
  simp only [k0_part45_eq_skeleton, k0_part45_skel, k0_part46_eq_skeleton, k0_part46_skel, Prog.lift, Prog.bind_op, Prog.bind_ret, Prog.pure_eq_ret]
  iapply (wp_result m K c (ldR c).1 (ldR c).2.2 (ldR c).2.1 (k0_off57_eq c)
    (rrs_sem (peer c 0) (semR c).1 _ _) (rrs_sem (peer c 2) (semR c).2.2 _ _) (rrs_sem (peer c 1) (semR c).2.1 _ _) rfl) $$ He HO HP HR HY
  iintro ⟨HO, HP, HR, HY⟩
  ihave HQ := HQ $$ HP
  unfold quad
  icases HQ with ⟨Q0, Q1, Q2, Q3⟩
  simp only [k0_part47_eq_skeleton, k0_part47_skel, k0_part48_eq_skeleton, k0_part48_skel, k0_part49_eq_skeleton, k0_part49_skel, k0_part50_eq_skeleton, k0_part50_skel,
    k0_part51_eq_skeleton, k0_part51_skel, k0_part52_eq_skeleton, k0_part52_skel, k0_part53_eq_skeleton, k0_part53_skel,
    Prog.lift, Prog.bind_op, Prog.bind_ret, Prog.pure_eq_ret]
  iapply (wp_wait_out m K c 0 0 (snd_sem 0 0 1 rfl _ _) (snd_sem 0 0 0 rfl _ _) (snd_sem 0 0 2 rfl _ _)) $$ He HO S00
  iintro ⟨HO, S00⟩
  iapply (wp_wait_out m K c 0 1 (snd_sem 0 1 1 rfl _ _) (snd_sem 0 1 0 rfl _ _) (snd_sem 0 1 2 rfl _ _)) $$ He HO S01
  iintro ⟨HO, S01⟩
  iapply (wp_wait_out m K c 0 2 (snd_sem 0 2 1 rfl _ _) (snd_sem 0 2 0 rfl _ _) (snd_sem 0 2 2 rfl _ _)) $$ He HO S02
  iintro ⟨HO, S02⟩
  iapply (wp_wait_out m K c 0 3 (snd_sem 0 3 1 rfl _ _) (snd_sem 0 3 0 rfl _ _) (snd_sem 0 3 2 rfl _ _)) $$ He HO S03
  iintro ⟨HO, S03⟩
  iapply (wp_wait_out m K c 1 0 (snd_sem 1 0 1 rfl _ _) (snd_sem 1 0 0 rfl _ _) (snd_sem 1 0 2 rfl _ _)) $$ He HO S10
  iintro ⟨HO, S10⟩
  iapply (wp_wait_out m K c 1 1 (snd_sem 1 1 1 rfl _ _) (snd_sem 1 1 0 rfl _ _) (snd_sem 1 1 2 rfl _ _)) $$ He HO S11
  iintro ⟨HO, S11⟩
  iapply (wp_wait_out m K c 1 2 (snd_sem 1 2 1 rfl _ _) (snd_sem 1 2 0 rfl _ _) (snd_sem 1 2 2 rfl _ _)) $$ He HO S12
  iintro ⟨HO, S12⟩
  iapply (wp_wait_out m K c 1 3 (snd_sem 1 3 1 rfl _ _) (snd_sem 1 3 0 rfl _ _) (snd_sem 1 3 2 rfl _ _)) $$ He HO S13
  iintro ⟨HO, S13⟩
  iapply (wp_maybe_wait m K c 0 (condW0 c) (fun _ => srs_sem 0 rfl _ _)) $$ He HO Q0
  iintro ⟨HO, Q0⟩
  iapply (wp_maybe_wait m K c 1 (condW1 c) (fun _ => srs_sem 1 rfl _ _)) $$ He HO Q1
  iintro ⟨HO, Q1⟩
  iapply (wp_maybe_wait m K c 2 (condW2 c) (fun _ => srs_sem 2 rfl _ _)) $$ He HO Q2
  iintro ⟨HO, Q2⟩
  iapply (wp_maybe_wait m K c 3 (condW3 c) (fun _ => srs_sem 3 rfl _ _)) $$ He HO Q3
  iintro ⟨HO, Q3⟩
  unfold WP
  rw [wp_ret]
  imodintro
  iapply Hk
  unfold bodyPost oct quad
  isplitl [HO]; · iexact HO
  isplitl [HzB]; · iexact HzB
  isplitl [S00 S01 S02 S03 S10 S11 S12 S13]
  · isplitl [S00]; · iexact S00
    isplitl [S01]; · iexact S01
    isplitl [S02]; · iexact S02
    isplitl [S03]; · iexact S03
    isplitl [S10]; · iexact S10
    isplitl [S11]; · iexact S11
    isplitl [S12] <;> iassumption
  isplitl [T00 T01 T02 T03 T10 T11 T12 T13]
  · isplitl [T00]; · iexact T00
    isplitl [T01]; · iexact T01
    isplitl [T02]; · iexact T02
    isplitl [T03]; · iexact T03
    isplitl [T10]; · iexact T10
    isplitl [T11]; · iexact T11
    isplitl [T12] <;> iassumption
  isplitl [Q0 Q1 Q2 Q3]
  · isplitl [Q0]; · iexact Q0
    isplitl [Q1]; · iexact Q1
    isplitl [Q2] <;> iassumption
  isplitl [HR]; · iexact HR
  isplitl [HS] <;> iassumption

end Cert.K
-- ==== Proof.Split.lean ====
/-
# The device's cells and buffers, taken apart and put together

A device holds all its cells and its three scratch buffers whole; the body wants them by use: what device `c` itself
writes, and what each peer writes. These are the passages between the two.
-/
module

public import proofs.«01_k».proof.Proof.Body

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CX → ℕ) (c : Dev nD)

/-! ## Three, four, eight of a kind -/

theorem tri_sep (P Q : Fin 3 → sProp 𝕄) : tri (fun o => iprop(P o ∗ Q o)) = iprop(tri P ∗ tri Q) := by
  rw [← tri_eq, ← tri_eq, ← tri_eq, bigSep_sep']
theorem quad_sep (P Q : Fin 4 → sProp 𝕄) : quad (fun j => iprop(P j ∗ Q j)) = iprop(quad P ∗ quad Q) := by
  rw [← quad_eq, ← quad_eq, ← quad_eq, bigSep_sep']
theorem oct_eq' (P : Fin 2 → Fin 4 → sProp 𝕄) : oct P = bigSep Finset.univ fun lj : Fin 2 × Fin 4 => P lj.1 lj.2 :=
  (oct_eq fun lj => P lj.1 lj.2).symm
theorem oct_sep (P Q : Fin 2 → Fin 4 → sProp 𝕄) : oct (fun l j => iprop(P l j ∗ Q l j)) = iprop(oct P ∗ oct Q) := by
  rw [oct_eq', oct_eq', oct_eq', bigSep_sep']
theorem tri_mono {P Q : Fin 3 → sProp 𝕄} (h : ∀ o, P o ⊢ Q o) : tri P ⊢ tri Q := by
  rw [← tri_eq, ← tri_eq]; exact bigSep_mono fun o _ => h o
theorem quad_mono {P Q : Fin 4 → sProp 𝕄} (h : ∀ o, P o ⊢ Q o) : quad P ⊢ quad Q := by
  rw [← quad_eq, ← quad_eq]; exact bigSep_mono fun o _ => h o
theorem oct_mono {P Q : Fin 2 → Fin 4 → sProp 𝕄} (h : ∀ l j, P l j ⊢ Q l j) : oct P ⊢ oct Q := by
  rw [oct_eq', oct_eq']; exact bigSep_mono fun lj _ => h lj.1 lj.2
theorem oct_tri (P : Fin 2 → Fin 4 → Fin 3 → sProp 𝕄) :
    oct (fun l j => tri fun o => P l j o) = tri fun o => bigSep Finset.univ fun lj : Fin 2 × Fin 4 => P lj.1 lj.2 o := by
  rw [oct_eq', ← tri_eq, bigSep_congr fun lj _ => (tri_eq fun o => P lj.1 lj.2 o).symm, bigSep_univ_comm]

/-- Everything over the devices: `c`'s and its three peers'. -/
theorem dev_split (P : Dev nD → sProp 𝕄) : bigSep Finset.univ P = iprop(P c ∗ tri fun o => P (peer c o)) := by
  rw [BI.bigSep_erase (Finset.mem_univ c), erase_eq_tri]; rfl

theorem wx_split (P : Fin 2 → Fin 4 → Fin 4 → sProp 𝕄) :
    bigSep Finset.univ (fun x : WX => P x.1 x.2.1 x.2.2) = oct fun l j => iprop(P l c j ∗ tri fun o => P l (peer c o) j) := by
  rw [bigSep_univ_prod, oct_eq', bigSep_univ_prod]
  refine bigSep_congr fun l _ => ?_
  rw [bigSep_univ_prod, bigSep_univ_comm]
  exact bigSep_congr fun j _ => dev_split c fun s => P l s j
theorem snd_split (P : Fin 2 → Fin 4 → Fin 3 → sProp 𝕄) :
    bigSep Finset.univ (fun x : Fin 2 × Fin 4 × Fin 3 => P x.1 x.2.1 x.2.2) = oct fun l j => tri fun o => P l j o := by
  rw [bigSep_univ_prod, oct_eq', bigSep_univ_prod]
  refine bigSep_congr fun l _ => ?_
  rw [bigSep_univ_prod]
  exact bigSep_congr fun j _ => tri_eq fun o => P l j o

/-- The kernel's own cells by use, and all cells. -/
def byUse (P : GSem nD τ sig → sProp 𝕄) : sProp 𝕄 :=
  iprop(oct (fun l j => tri fun o => P (cellD c (sndS l j o)))
    ∗ oct (fun l j => iprop(P (cellD c (rcvS l c j)) ∗ tri fun o => P (cellD c (rcvS l (peer c o) j))))
    ∗ quad (fun j => P (cellD c (srsS j))) ∗ P (cellD c (rrsS c)) ∗ tri fun o => P (cellD c (rrsS (peer c o))))

theorem kx_split (P : GSem nD τ sig → sProp 𝕄) : bigSep Finset.univ (fun k : KX => P ((c : Thread nD τ), osem k)) = byUse c P := by
  unfold byUse
  rw [bigSep_univ_sum, bigSep_univ_sum, bigSep_univ_sum, ← snd_split (fun l j o => P (cellD c (sndS l j o))),
    ← wx_split c (fun l s j => P (cellD c (rcvS l s j))), ← quad_eq, ← dev_split c fun s => P (cellD c (rrsS s))]
  rfl
theorem cx_split (P : GSem nD τ sig → sProp 𝕄) : bigSep Finset.univ (fun k : CX => P (kcell (c, k))) = iprop(P (barCell c) ∗ byUse c P) := by
  rw [← kx_split, bigSep_univ_sum, Finset.univ_unique, bigSep_singleton]
  rfl

/-! ## The scratch buffers -/

theorem whole_bc (f : (cc0_scratch0 : Ref sig .tc).ty.Contents (Elt F)) :
    ((((c : Thread nD τ).loc cc0_scratch0) ↦{fullShare} f) : sProp 𝕄)
      = oct fun l j => iprop(bcP c l c j fullShare f ∗ tri fun o => bcP c l (peer c o) j fullShare f) := by
  rw [← wx_split c (fun l s j => bcP c l s j fullShare f)]
  unfold bcP
  rw [← pointsTo_biUnion (ℓ := (c : Thread nD τ).loc cc0_scratch0) (f := f) Finset.univ (fun t : WX => bcSet t.1 t.2.1 t.2.2) bc_disjoint, bc_cover]
theorem whole_pt (f : (cc0_scratch1 : Ref sig .tc).ty.Contents (Elt F)) :
    ((((c : Thread nD τ).loc cc0_scratch1) ↦{fullShare} f) : sProp 𝕄) = quad fun j => ptP c j f := by
  rw [← quad_eq]
  unfold ptP
  rw [← pointsTo_biUnion (ℓ := (c : Thread nD τ).loc cc0_scratch1) (f := f) Finset.univ ptSet pt_disjoint, pt_cover]
theorem whole_rs (f : (cc0_scratch2 : Ref sig .tc).ty.Contents (Elt F)) :
    ((((c : Thread nD τ).loc cc0_scratch2) ↦{fullShare} f) : sProp 𝕄) = iprop(rsP c c f ∗ tri fun o => rsP c (peer c o) f) := by
  rw [← dev_split c fun s => rsP c s f]
  unfold rsP
  rw [← pointsTo_biUnion (ℓ := (c : Thread nD τ).loc cc0_scratch2) (f := f) Finset.univ ptSet pt_disjoint, pt_cover]

theorem bc_some (f : (cc0_scratch0 : Ref sig .tc).ty.Contents (Elt F)) (s l j) :
    (bcP c l s j fullShare f : sProp 𝕄) ⊢ iprop(∃ f, bcP c l s j fullShare f) := by
  iintro H; iexists f; iexact H
theorem pt_some (f : (cc0_scratch1 : Ref sig .tc).ty.Contents (Elt F)) (j) : (ptP c j f : sProp 𝕄) ⊢ iprop(∃ f, ptP c j f) := by
  iintro H; iexists f; iexact H
theorem rs_some (f : (cc0_scratch2 : Ref sig .tc).ty.Contents (Elt F)) (s) : (rsP c s f : sProp 𝕄) ⊢ iprop(∃ f, rsP c s f) := by
  iintro H; iexists f; iexact H

/-- The three buffers, whole at some contents. -/
def scr : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- At entry: what `c` writes stays, what its peers write goes to them. -/
theorem scr_apart : scr (F := F) c ⊢ iprop(oct (fun l j => iprop(∃ f, bcP c l c j fullShare f)) ∗ tri (fun o => land c (peer c o))
      ∗ quad (fun j => iprop(∃ f, ptP c j f)) ∗ ∃ f, rsP c c f) := by
  unfold scr land
  rw [tri_sep, ← oct_tri (fun l j o => iprop(∃ f, bcP c l (peer c o) j fullShare f))]
  iintro ⟨⟨%f, H0⟩, ⟨%g, H1⟩, ⟨%h, H2⟩⟩
  ihave H0 := (Entails.of_eq (whole_bc c f)) $$ H0
  ihave H1 := (Entails.of_eq (whole_pt c g)) $$ H1
  ihave H2 := (Entails.of_eq (whole_rs c h)) $$ H2
  ihave H0 := (Entails.of_eq (oct_sep (fun l j => bcP c l c j fullShare f) _)) $$ H0
  icases H0 with ⟨H0, H0'⟩
  icases H2 with ⟨H2, H2'⟩
  isplitl [H0]; · iapply (oct_mono fun l j => bc_some c f c l j) $$ H0
  isplitl [H0' H2']
  · isplitl [H0']; · iapply (oct_mono fun l j => tri_mono fun o => bc_some c f (peer c o) l j) $$ H0'
    iapply (tri_mono fun o => rs_some c h (peer c o)) $$ H2'
  isplitl [H1]; · iapply (quad_mono fun j => pt_some c g j) $$ H1
  iexists h; iexact H2

/-- The landing slots, whatever each holds, are the whole buffer. -/
theorem rs_join (f₀ : (cc0_scratch2 : Ref sig .tc).ty.Contents (Elt F)) :
    iprop((∃ f, rsP c c f) ∗ tri fun o => iprop(∃ f, rsP c (peer c o) f))
      ⊢ iprop(∃ f : Buf (Elt F) ((c : Thread nD τ).loc cc0_scratch2), ((c : Thread nD τ).loc cc0_scratch2) ↦{fullShare} f) := by
  rw [← dev_split c fun s => iprop(∃ f, rsP c s f)]
  iintro H
  ihave H := (BI.bigSep_exists_pi Finset.univ (fun (s : Dev nD) f => (rsP c s f : sProp 𝕄))) $$ H
  icases H with ⟨%fs, H⟩
  unfold rsP
  ihave H := (pointsTo_biUnion_join (ℓ := (c : Thread nD τ).loc cc0_scratch2) (q := fullShare) Finset.univ ptSet fs f₀ pt_disjoint) $$ H
  rw [pt_cover]
  icases H with ⟨%g, -, H⟩
  iexists g
  iexact H

/-- At exit. -/
theorem scr_together : iprop(oct (fun l j => iprop(bcP c l c j fullShare (G m) ∗ tri fun o => bcP c l (peer c o) j fullShare (G m)))
      ∗ quad (fun j => ptP c j (PT m c)) ∗ (∃ f, rsP c c f) ∗ tri (fun o => rsP c (peer c o) (RS m c))) ⊢ scr (F := F) c := by
  unfold scr
  iintro ⟨H0, H1, H2, H3⟩
  isplitl [H0]
  · iexists (G m)
    iapply (Entails.of_eq (whole_bc c (G m)).symm) $$ H0
  isplitl [H1]
  · iexists (PT m c)
    iapply (Entails.of_eq (whole_pt c (PT m c)).symm) $$ H1
  iapply (rs_join c (RS m c))
  isplitl [H2]; · iexact H2
  iapply (tri_mono fun o => rs_some c (RS m c) (peer c o)) $$ H3

end Cert.K
-- ==== Proof.Enter.lean ====
/-
# From what the launch gives a device to what its body needs, and back

The launch deals device `c` its positions at all its cells, the duty tokens that name it as payer, its credits and its
scratch buffers (`linear`, `creds`, `scr`). `enter` sorts them by use and closes the cells nobody pays; `leave` puts
everything together after the body.
-/
module

public import proofs.«01_k».proof.Proof.Split

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CX → ℕ) (c : Dev nD)

/-- The tokens of the duties device `c` pays, over all cells of all devices. -/
def payToks : sProp 𝕄 := bigSep Finset.univ fun e : Dev nD => bigSep Finset.univ fun k : CX => dutyTok ER (kcell (e, k)) 0 c

def linear : sProp 𝕄 := iprop((bigSep Finset.univ fun k : CX => atPos ER (kcell (c, k)) 0 ∅ 0) ∗ payToks c)

/-- The credits device `c` waits with. -/
def creds : sProp 𝕄 :=
  iprop(cred (tallyAt (barCell c) () 3) ∗ oct (fun l j => tri fun o => cred (tallyAt (cellD c (rcvS l (peer c o) j)) () N))
    ∗ tri fun o => cred (tallyAt (cellD c (rrsS (peer c o))) () N))

theorem octtri_sep (P Q : Fin 2 → Fin 4 → Fin 3 → sProp 𝕄) :
    oct (fun l j => tri fun o => iprop(P l j o ∗ Q l j o)) = iprop(oct (fun l j => tri fun o => P l j o) ∗ oct fun l j => tri fun o => Q l j o) := by
  rw [← oct_sep]
  exact congrArg oct (funext fun l => funext fun j => tri_sep _ _)

/-! ## The tokens -/

/-- Of a cell family of one device `e`: its barrier, what device `c` broadcasts to it, what `c` sends it at the end. -/
theorem to_peer (P : GSem nD τ sig → sProp 𝕄) (e : Dev nD) :
    bigSep Finset.univ (fun k : CX => P (kcell (e, k)))
      ⊢ iprop(P (barCell e) ∗ oct (fun l j => P (cellD e (rcvS l c j))) ∗ P (cellD e (rrsS c))) := by
  rw [bigSep_univ_sum, Finset.univ_unique, bigSep_singleton, bigSep_univ_sum, bigSep_univ_sum, bigSep_univ_sum]
  show iprop(P (barCell e) ∗ bigSep Finset.univ (fun x : Fin 2 × Fin 4 × Fin 3 => P (cellD e (sndS x.1 x.2.1 x.2.2)))
      ∗ bigSep Finset.univ (fun x : WX => P (cellD e (rcvS x.1 x.2.1 x.2.2))) ∗ bigSep Finset.univ (fun j : Fin 4 => P (cellD e (srsS j)))
      ∗ bigSep Finset.univ fun s : Fin 4 => P (cellD e (rrsS s))) ⊢ _
  rw [wx_split c (fun l s j => P (cellD e (rcvS l s j))), oct_sep, dev_split c fun s => P (cellD e (rrsS s))]
  iintro ⟨HB, -, ⟨HR, -⟩, -, HS, -⟩
  isplitl [HB]; · iexact HB
  isplitl [HR] <;> iassumption

theorem drop_own (A B : Fin 4 → sProp 𝕄) (j : Fin 4) :
    iprop(A j ∗ if j = c then iprop(emp) else B j) ⊢ if j = c then iprop(emp) else iprop(A j ∗ B j) := by
  by_cases h : j = c
  · rw [if_pos h, if_pos h]
    iintro ⟨-, H⟩
    iexact H
  · rw [if_neg h, if_neg h]

theorem toks_apart : payToks (F := F) c ⊢ iprop(tri (fun o => dutyTok ER (barCell (peer c o)) 0 c)
      ∗ oct (fun l j => tri fun o => iprop(dutyTok ER (cellD c (sndS l j o)) 0 c ∗ dutyTok ER (cellD (peer c o) (rcvS l c j)) 0 c))
      ∗ quad fun j => if j = c then iprop(emp) else iprop(dutyTok ER (cellD c (srsS j)) 0 c ∗ dutyTok ER (cellD j (rrsS c)) 0 c)) := by
  unfold payToks
  rw [dev_split c, octtri_sep, cx_split c (fun g => dutyTok ER g 0 c)]
  unfold byUse
  iintro ⟨⟨-, HS, -, HQ, -⟩, HP⟩
  ihave HP := (tri_mono fun o => to_peer c (fun g => dutyTok ER g 0 c) (peer c o)) $$ HP
  ihave HP := (Entails.of_eq (tri_sep (fun o => dutyTok ER (barCell (peer c o)) 0 c) _)) $$ HP
  icases HP with ⟨HB, HP⟩
  ihave HP := (Entails.of_eq (tri_sep (fun o => oct fun l j => dutyTok ER (cellD (peer c o) (rcvS l c j)) 0 c) _)) $$ HP
  icases HP with ⟨HR, HE⟩
  isplitl [HB]; · iexact HB
  isplitl [HS HR]
  · isplitl [HS]; · iexact HS
    iapply (Entails.of_eq (show tri (fun o => oct fun l j => dutyTok ER (cellD (peer c o) (rcvS l c j)) 0 c)
        = oct (fun l j => tri fun o => dutyTok ER (cellD (peer c o) (rcvS l c j)) 0 c) by
      rw [oct_tri]; exact congrArg tri (funext fun o => oct_eq' _)))
    iexact HR
  iapply (quad_mono fun j => drop_own c (fun j => dutyTok ER (cellD c (srsS j)) 0 c) (fun j => dutyTok ER (cellD j (rrsS c)) 0 c) j)
  rw [quad_sep, ← quad_eq (fun j : Dev nD => if j = c then iprop(emp) else dutyTok ER (cellD j (rrsS c)) 0 c), ite_eq_tri]
  isplitl [HQ] <;> iassumption

/-! ## Entering -/

/-- What the body needs, but for its dues and the staging buffers. -/
def pre : sProp 𝕄 :=
  iprop(atPos ER (barCell c) 0 ∅ 0 ∗ cred (tallyAt (barCell c) () 3)
    ∗ tri (fun o => dutyTok ER (barCell (peer c o)) 0 c) ∗ tri (fun o => land c (peer c o))
    ∗ oct (fun l j => tri fun o => sndIn c l j o) ∗ oct (fun l j => iprop(∃ f, bcP c l c j fullShare f))
    ∗ oct (fun l j => tri fun o => rcvIn c l j o)
    ∗ quad (fun j => iprop(∃ f, ptP c j f)) ∗ quad (fun j => srsTok c j) ∗ tri (fun o => rrsIn c o))
/-- What stays beside it: the cells nobody pays, closed, and the device's own landing slot. -/
def kept : sProp 𝕄 :=
  iprop(oct (fun l j => semVal (cellD c (rcvS l c j)) 0) ∗ semVal (cellD c (rrsS c)) 0 ∗ ∃ f, rsP c c f)

theorem close_rcv : iprop(env m K ∗ oct (fun l j => atPos ER (cellD c (rcvS l c j)) 0 ∅ 0))
    ⊢ |={Set.univ}=> oct (fun l j => semVal (cellD c (rcvS l c j)) 0) := by
  rw [oct_eq', oct_eq']
  refine (sep_mono_left (BI.bigSep_of_persistent (Finset.univ : Finset (Fin 2 × Fin 4)) (env m K))).trans ?_
  rw [← bigSep_sep']
  exact (bigSep_mono fun lj _ => close_unpaid m K c (.inr (.inl (lj.1, c, lj.2))) (if_pos rfl)).trans (bigSep_fupd _ _)

theorem enter : iprop(env m K ∗ linear c ∗ creds c ∗ scr c) ⊢ |={Set.univ}=> iprop(pre c ∗ kept c) := by
  unfold linear creds
  rw [cx_split c (fun g => atPos ER g 0 ∅ 0)]
  unfold byUse
  iintro ⟨#He, ⟨⟨HaB, HaS, HaR, HaQ, HaE', HaE⟩, HT⟩, ⟨HcB, HcR, HcE⟩, HX⟩
  ihave HT := (toks_apart c) $$ HT
  icases HT with ⟨HtB, HtS, HtQ⟩
  ihave HX := (scr_apart c) $$ HX
  icases HX with ⟨HX0, HXl, HXp, HXr⟩
  ihave HaR := (Entails.of_eq (oct_sep (fun l j => atPos ER (cellD c (rcvS l c j)) 0 ∅ 0) _)) $$ HaR
  icases HaR with ⟨HaR', HaR⟩
  imod (close_rcv m K c) $$ [HaR'] with HzR
  · isplitr; · iexact He
    iexact HaR'
  imod (close_unpaid m K c (.inr (.inr (.inr c))) (if_pos rfl)) $$ [HaE'] with HzE
  · isplitr; · iexact He
    iexact HaE'
  imodintro
  unfold pre kept sndIn rcvIn srsTok rrsIn
  rw [octtri_sep (fun l j o => atPos ER (cellD c (sndS l j o)) 0 ∅ 0), octtri_sep (fun l j o => atPos ER (cellD c (rcvS l (peer c o) j)) 0 ∅ 0),
    quad_sep (fun j => atPos ER (cellD c (srsS j)) 0 ∅ 0), tri_sep (fun o => atPos ER (cellD c (rrsS (peer c o))) 0 ∅ 0)]
  isplitr [HzR HzE HXr]
  · isplitl [HaB]; · iexact HaB
    isplitl [HcB]; · iexact HcB
    isplitl [HtB]; · iexact HtB
    isplitl [HXl]; · iexact HXl
    isplitl [HaS HtS]; · isplitl [HaS] <;> iassumption
    isplitl [HX0]; · iexact HX0
    isplitl [HaR HcR]; · isplitl [HaR] <;> iassumption
    isplitl [HXp]; · iexact HXp
    isplitl [HaQ HtQ]; · isplitl [HaQ] <;> iassumption
    isplitl [HaE] <;> iassumption
  isplitl [HzR]; · iexact HzR
  isplitl [HzE]; · iexact HzE
  iexact HXr

/-! ## Leaving -/

theorem leave_chunk (l : Fin 2) (j : Fin 4) :
    iprop(tri (fun o => sndZ m c l j o) ∗ inOut m c l j ∗ semVal (cellD c (rcvS l c j)) 0)
      ⊢ iprop(tri (fun o => semVal (cellD c (sndS l j o)) 0) ∗ (semVal (cellD c (rcvS l c j)) 0 ∗ tri fun o => semVal (cellD c (rcvS l (peer c o) j)) 0)
        ∗ (bcP c l c j fullShare (G m) ∗ tri fun o => bcP c l (peer c o) j fullShare (G m))) := by
  unfold inOut sndZ rcvOut
  rw [tri_sep (fun o => semVal (cellD c (sndS l j o)) 0), tri_sep (fun o => semVal (cellD c (rcvS l (peer c o) j)) 0)]
  iintro ⟨⟨HS, Hb⟩, ⟨Hk, HR, Hp⟩, Hz⟩
  isplitl [HS]; · iexact HS
  isplitl [Hz HR]; · isplitl [Hz] <;> iassumption
  isplitr [Hp]
  · iapply (bcP_split c l c j (G m)).2
    unfold tri
    isplitl [Hk] <;> iassumption
  iexact Hp

theorem leave : iprop(semVal (barCell c) 0 ∗ oct (fun l j => tri fun o => sndZ m c l j o) ∗ oct (fun l j => inOut m c l j)
      ∗ quad (fun j => srsZ m c j) ∗ tri (fun o => rrsOut m c o) ∗ kept c)
    ⊢ iprop(scr c ∗ semVal (barCell c) 0 ∗ byUse c fun g => semVal g 0) := by
  unfold kept srsZ rrsOut byUse
  rw [quad_sep (fun j => semVal (cellD c (srsS j)) 0), tri_sep (fun o => semVal (cellD c (rrsS (peer c o))) 0)]
  iintro ⟨HB, HS, HI, ⟨HQ, Hp⟩, ⟨HE, Hr⟩, HzR, HzE, Hr'⟩
  ihave H := (show iprop(oct (fun l j => tri fun o => sndZ m c l j o) ∗ oct (fun l j => inOut m c l j) ∗ oct fun l j => semVal (cellD c (rcvS l c j)) 0)
      ⊢ iprop(oct (fun l j => tri fun o => semVal (cellD c (sndS l j o)) 0)
        ∗ oct (fun l j => iprop(semVal (cellD c (rcvS l c j)) 0 ∗ tri fun o => semVal (cellD c (rcvS l (peer c o) j)) 0))
        ∗ oct fun l j => iprop(bcP c l c j fullShare (G m) ∗ tri fun o => bcP c l (peer c o) j fullShare (G m))) by
    rw [← oct_sep, ← oct_sep, ← oct_sep, ← oct_sep]; exact oct_mono fun l j => leave_chunk m c l j) $$ [HS HI HzR]
  · isplitl [HS]; · iexact HS
    isplitl [HI] <;> iassumption
  icases H with ⟨HS, HR, Hb⟩
  isplitl [Hb Hp Hr Hr']
  · iapply (scr_together m c)
    isplitl [Hb]; · iexact Hb
    isplitl [Hp]; · iexact Hp
    isplitl [Hr'] <;> iassumption
  isplitl [HB]; · iexact HB
  isplitl [HS]; · iexact HS
  isplitl [HR]; · iexact HR
  isplitl [HQ]; · iexact HQ
  isplitl [HzE] <;> iassumption

end Cert.K
-- ==== Proof.Credits.lean ====
/-
# The credits a device starts with

The sum over all devices of what they owe a cell is what its owner waits for: three units at the barrier, the bytes of one
message at each receive cell of another sender.
-/
module

public import proofs.«01_k».proof.Proof.Enter

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

abbrev O₀ (c : Dev nD) : CellTallies nD τ sig Unit := tal (dues c)

theorem tal_sum (g : GSem nD τ sig) : ∀ l : List (GSem nD τ sig × ℕ), tal l g () = (l.map fun p => if g = p.1 then p.2 else 0).sum
  | [] => rfl
  | x :: xs => by
    unfold tal
    rw [Pi.add_apply, Finsupp.add_apply, tallyAt_apply, tal_sum g xs, List.map_cons, List.sum_cons, Nat.add_comm]
    exact congrArg (· + _) (if_congr (and_iff_left rfl) rfl rfl)

/-- What all devices together owe cell `g`. -/
def owedAt (g : GSem nD τ sig) : ℕ := ∑ d : Dev nD, ((dues d).map fun p => if g = p.1 then p.2 else 0).sum

theorem launch_tally (g : GSem nD τ sig) :
    tallyOn g (launchCredit (Pipeline.owing O₀) 0 g) = (tallyAt g () (owedAt g) : CellTallies nD τ sig Unit) := by
  unfold tallyAt; refine congrArg _ (Finsupp.ext fun u => ?_); cases u
  rw [Pipeline.launchCredit_owing, Finsupp.single_eq_same]
  exact Finset.sum_congr rfl fun d _ => tal_sum g (dues d)

theorem owed_bar : ∀ c : Dev nD, owedAt (barCell c) = 3 := by decide +kernel
theorem owed_rcv : ∀ (c : Dev nD) (l : Fin 2) (o : Fin 3) (j : Fin 4), owedAt (cellD c (rcvS l (peer c o) j)) = N := by decide +kernel
theorem owed_rrs : ∀ (c : Dev nD) (o : Fin 3), owedAt (cellD c (rrsS (peer c o))) = N := by decide +kernel

theorem creds_intro : (Pipeline.launchCred O₀ c : sProp 𝕄) ⊢ creds c := by
  have h1 : (Pipeline.launchCred O₀ c : sProp 𝕄) ⊢ bigSep Finset.univ fun k : CX => cred (tallyAt (kcell (c, k)) () (owedAt (kcell (c, k)))) := by
    unfold Pipeline.launchCred
    refine (BI.bigSep_subset (t := Finset.univ.map ⟨csem, csem_injective⟩) (Finset.subset_univ _)).trans ?_
    rw [bigSep_map]
    exact bigSep_mono fun k _ => Entails.of_eq (congrArg cred (launch_tally (kcell (c, k))))
  refine h1.trans ?_
  rw [cx_split c (fun g => cred (tallyAt g () (owedAt g)))]
  unfold byUse creds
  rw [owed_bar, oct_sep]
  simp only [owed_rcv, owed_rrs]
  iintro ⟨HB, -, ⟨-, HR⟩, -, -, HE⟩
  isplitl [HB]; · iexact HB
  isplitl [HR]; · iexact HR
  iexact HE

end Cert.K
-- ==== Proof.Launch.lean ====
/-
# The launch

The pipeline's proof data, the body obligation from `sound_body`, the launch's ghost state and the run of the whole mesh.
-/
module

public import proofs.«01_k».proof.Proof.Credits
public import proofs.«01_k».proof.Proof.Gen.KernelIdeal.Points
public import Idealize.ShloMosaic.Lib.Pipeline.FrameBody
public import Idealize.ShloMosaic.Lib.Ring
public import Idealize.ShloMosaic.Lib.Pipeline.CollectiveSegs

@[expose] public section

set_option synthInstance.maxSize 4096

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Before and after the one point of the grid -/

def start : sProp 𝕄 := iprop((∃ K, env m K ∗ linear c) ∗ creds c)
def Φ₀ : sProp 𝕄 := iprop(start m c ∗ scr c)
def Φ₁ : sProp 𝕄 := iprop(scr c ∗ semVal (barCell c) 0 ∗ byUse c fun g => semVal g 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => W0 m c
    | ⟨2, _⟩ => U0 m c
    | ⟨3, _⟩ => W1 m c
    | ⟨4, _⟩ => U1 m c
    | ⟨5, _⟩ => W2 m c
    | ⟨6, _⟩ => U2 m c
    | ⟨7, _⟩ => Out m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- A staging buffer holding `V`. -/
abbrev stg (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

theorem stg_fetched (w : Fin cfg0.W) (b : Ref sig .tc) {V : b.ty.Contents (Elt F)} {V' : (d : b.ty.Contents (Elt F)) → b.ty.Contents (Elt F)} (h : ∀ d, V' d = V) :
    iprop(∃ d, stg c b (V' d)) ⊢ (((c : Thread nD τ).loc b) ↦{fullShare} V : sProp 𝕄) := by
  iintro ⟨%d, %f, %hf, H⟩
  subst hf
  rw [h d]
  iexact H

theorem stg_any (b : Ref sig .tc) {V' : (d : b.ty.Contents (Elt F)) → b.ty.Contents (Elt F)} :
    iprop(∃ d, stg c b (V' d)) ⊢ (iprop(∃ f, (((c : Thread nD τ).loc b) ↦{fullShare} f)) : sProp 𝕄) := by
  iintro ⟨%d, %f, -, H⟩
  iexists f
  iexact H

theorem to_stg (b : Ref sig .tc) (V : b.ty.Contents (Elt F)) : (((c : Thread nD τ).loc b) ↦{fullShare} V : sProp 𝕄) ⊢ stg c b V := by
  iintro H
  iexists V
  isplitr; · ipureintro; rfl
  iexact H

def before' : sProp 𝕄 :=
  iprop((∃ d, stg c cc0_stg0_0 ((dats m ρ 0 c).before (0 : Fin 8) t0_0 d)) ∗ (∃ d, stg c cc0_stg1_0 ((dats m ρ 0 c).before (1 : Fin 8) t0_0 d))
    ∗ (∃ d, stg c cc0_stg2_0 ((dats m ρ 0 c).before (2 : Fin 8) t0_0 d)) ∗ (∃ d, stg c cc0_stg3_0 ((dats m ρ 0 c).before (3 : Fin 8) t0_0 d))
    ∗ (∃ d, stg c cc0_stg4_0 ((dats m ρ 0 c).before (4 : Fin 8) t0_0 d)) ∗ (∃ d, stg c cc0_stg5_0 ((dats m ρ 0 c).before (5 : Fin 8) t0_0 d))
    ∗ (∃ d, stg c cc0_stg6_0 ((dats m ρ 0 c).before (6 : Fin 8) t0_0 d)) ∗ (∃ d, stg c cc0_stg7_0 ((dats m ρ 0 c).before (7 : Fin 8) t0_0 d)))

def after' : sProp 𝕄 :=
  iprop(stg c cc0_stg0_0 (X m c) ∗ stg c cc0_stg1_0 (W0 m c) ∗ stg c cc0_stg2_0 (U0 m c) ∗ stg c cc0_stg3_0 (W1 m c)
    ∗ stg c cc0_stg4_0 (U1 m c) ∗ stg c cc0_stg5_0 (W2 m c) ∗ stg c cc0_stg6_0 (U2 m c) ∗ stg c cc0_stg7_0 (Out m c))

theorem before_0 (d) : (dats m ρ 0 c).before (0 : Fin 8) t0_0 d = X m c := by unfold Dat.before; rw [if_pos (fetch0_0 _)]; rfl
theorem before_1 (d) : (dats m ρ 0 c).before (1 : Fin 8) t0_0 d = W0 m c := by unfold Dat.before; rw [if_pos (fetch0_1 _)]; rfl
theorem before_2 (d) : (dats m ρ 0 c).before (2 : Fin 8) t0_0 d = U0 m c := by unfold Dat.before; rw [if_pos (fetch0_2 _)]; rfl
theorem before_3 (d) : (dats m ρ 0 c).before (3 : Fin 8) t0_0 d = W1 m c := by unfold Dat.before; rw [if_pos (fetch0_3 _)]; rfl
theorem before_4 (d) : (dats m ρ 0 c).before (4 : Fin 8) t0_0 d = U1 m c := by unfold Dat.before; rw [if_pos (fetch0_4 _)]; rfl
theorem before_5 (d) : (dats m ρ 0 c).before (5 : Fin 8) t0_0 d = W2 m c := by unfold Dat.before; rw [if_pos (fetch0_5 _)]; rfl
theorem before_6 (d) : (dats m ρ 0 c).before (6 : Fin 8) t0_0 d = U2 m c := by unfold Dat.before; rw [if_pos (fetch0_6 _)]; rfl

theorem before_staged : before' m ρ c ⊢ iprop(staged m c ∗ ∃ f, (((c : Thread nD τ).loc cc0_stg7_0) ↦{fullShare} f)) := by
  unfold before' staged
  iintro ⟨H0, H1, H2, H3, H4, H5, H6, H7⟩
  isplitr [H7]
  · isplitl [H0]; · iapply (stg_fetched c (0 : Fin 8) cc0_stg0_0 (before_0 m ρ c)); iexact H0
    isplitl [H1]; · iapply (stg_fetched c (1 : Fin 8) cc0_stg1_0 (before_1 m ρ c)); iexact H1
    isplitl [H2]; · iapply (stg_fetched c (2 : Fin 8) cc0_stg2_0 (before_2 m ρ c)); iexact H2
    isplitl [H3]; · iapply (stg_fetched c (3 : Fin 8) cc0_stg3_0 (before_3 m ρ c)); iexact H3
    isplitl [H4]; · iapply (stg_fetched c (4 : Fin 8) cc0_stg4_0 (before_4 m ρ c)); iexact H4
    isplitl [H5]; · iapply (stg_fetched c (5 : Fin 8) cc0_stg5_0 (before_5 m ρ c)); iexact H5
    iapply (stg_fetched c (6 : Fin 8) cc0_stg6_0 (before_6 m ρ c)); iexact H6
  iapply (stg_any c cc0_stg7_0); iexact H7

theorem staged_after : iprop(staged m c ∗ (((c : Thread nD τ).loc cc0_stg7_0) ↦{fullShare} Out m c)) ⊢ after' m c := by
  unfold after' staged
  iintro ⟨⟨H0, H1, H2, H3, H4, H5, H6⟩, H7⟩
  isplitl [H0]; · iapply (to_stg c cc0_stg0_0 (X m c)); iexact H0
  isplitl [H1]; · iapply (to_stg c cc0_stg1_0 (W0 m c)); iexact H1
  isplitl [H2]; · iapply (to_stg c cc0_stg2_0 (U0 m c)); iexact H2
  isplitl [H3]; · iapply (to_stg c cc0_stg3_0 (W1 m c)); iexact H3
  isplitl [H4]; · iapply (to_stg c cc0_stg4_0 (U1 m c)); iexact H4
  isplitl [H5]; · iapply (to_stg c cc0_stg5_0 (W2 m c)); iexact H5
  isplitl [H6]; · iapply (to_stg c cc0_stg6_0 (U2 m c)); iexact H6
  iapply (to_stg c cc0_stg7_0 (Out m c)); iexact H7

/-! ## The body obligation -/

def obPre : sProp 𝕄 := iprop(Φ₀ m c ∗ (dats m ρ 0 c).owesAt () t0_0.castSucc ∗ before' m ρ c)
def obPost : sProp 𝕄 := iprop(Φ₁ c ∗ (dats m ρ 0 c).owesAt () t0_0.succ ∗ after' m c)

theorem owes_in : (dats m ρ 0 c).owesAt () t0_0.castSucc ⊢ owesL c (dues c) := by
  unfold Dat.owesAt Pipeline.owesWithin owesL
  iintro ⟨%W, -, H⟩
  iexists W
  iexact H
theorem owes_out : owesL c [] ⊢ (dats m ρ 0 c).owesAt () t0_0.succ := by
  unfold Dat.owesAt Pipeline.owesWithin owesL
  iintro ⟨%W, H⟩
  iexists W
  isplitr; · ipureintro; exact fun _ _ => Or.inl trivial
  iexact H

theorem out_post : iprop(kept c ∗ bodyPost m c) ⊢ obPost m ρ c := by
  unfold bodyPost obPost Φ₁
  iintro ⟨Hk, HO, HB, HS, HI, HQ, HE, Hst, HY⟩
  isplitl [Hk HB HS HI HQ HE]
  · iapply (leave m c)
    isplitl [HB]; · iexact HB
    isplitl [HS]; · iexact HS
    isplitl [HI]; · iexact HI
    isplitl [HQ]; · iexact HQ
    isplitl [HE]; · iexact HE
    iexact Hk
  isplitl [HO]; · iapply (owes_out m ρ c); iexact HO
  iapply (staged_after m c)
  isplitl [Hst] <;> iassumption

theorem obligation : obPre m ρ c ⊢ WP c theBody fun _ => obPost m ρ c := by
  unfold obPre Φ₀ start
  iintro ⟨⟨⟨⟨%K, #He, Hl⟩, Hc⟩, Hx⟩, HO, Hs⟩
  ihave HO := (owes_in m ρ c) $$ HO
  ihave Hs := (before_staged m ρ c) $$ Hs
  icases Hs with ⟨Hst, HY⟩
  unfold WP
  imod (enter m K c) $$ [Hl Hc Hx] with ⟨Hp, Hk⟩
  · isplitr; · iexact He
    isplitl [Hl]; · iexact Hl
    isplitl [Hc] <;> iassumption
  iapply (sound_body m K c fun _ => obPost m ρ c)
  isplitr [Hk]
  · unfold pre bodyPre
    icases Hp with ⟨H1, H2, H3, H4, H5, H6, H7, H8, H9, H10⟩
    isplitr; · iexact He
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [Hst] <;> iassumption
  iintro Hp
  iapply (out_post m ρ c)
  isplitl [Hk] <;> iassumption

set_option maxRecDepth 4000 in
theorem body_obligation : BodyObligation (dats (F := F) m ρ 0 c) (defs₀ (F := F)) 𝒱₀ () Set.univ := fun t => by
  rw [fin_N0 t, bigSep_W0, bigSep_W0]
  simp only [owns_whole_eq]
  exact obligation m ρ c

/-! ## The launch's ghost state -/

theorem ownSemFacts : Pipeline.OwnSemFacts cfg0.spec osem := by decide +kernel

theorem share_eq (c : Dev nD) (w : Fin cfg0.W) : (dats m ρ 0 c).share w = fullShare := by unfold Dat.share; split <;> rfl

def ourCells : Finset (GSem nD τ sig) := Finset.univ.map ⟨kcell, kcell_injective⟩
/-- One token for each cell and each device that may pay it. -/
abbrev tokOf (x : Fin 4 × Dev nD × CX) : GSem nD τ sig × ℕ × Fin 4 := (kcell x.2, 0, x.1)
theorem tokOf_injective : Function.Injective tokOf := fun a b h =>
  Prod.ext (congrArg (fun y : GSem nD τ sig × ℕ × Fin 4 => y.2.2) h) (kcell_injective (congrArg (fun y : GSem nD τ sig × ℕ × Fin 4 => y.1) h))
def ourToks : Finset (GSem nD τ sig × ℕ × Fin 4) := Finset.univ.map ⟨tokOf, tokOf_injective⟩

def u₀ : UU := (initOf (Pipeline.cells cfgs cellOf_inj) (Pipeline.launchToks cfgs cellOf_inj), initOf ourCells ourToks)

/-- What device `c` is dealt. -/
def deal : sProp 𝕄 :=
  iprop((bigSep Finset.univ fun k : CX => roundState ER (sched m) (kcell (c, k)) 0)
    ∗ (bigSep Finset.univ fun k : CX => atPos ER (kcell (c, k)) 0 ∅ 0)
    ∗ (bigSep Finset.univ fun k : CX => reached ER (kcell (c, k)) 0) ∗ payToks c)

def records (K : Dev nD × CX → ℕ) : sProp 𝕄 :=
  iprop((bigSep Finset.univ fun ck : Dev nD × CX => cellInv ER (sched m) (K ck) (kcell ck))
    ∗ bigSep Finset.univ fun ck : Dev nD × CX => reached ER (kcell ck) 0)
instance records_persistent (K : Dev nD × CX → ℕ) : BI.Persistent (records m K) := by unfold records; infer_instance

/-- What it has once all cells' invariants stand. -/
def dealt : sProp 𝕄 := iprop(∃ K, records m K ∗ linear c)

theorem fund_cells : BI.own (ER (initOf ourCells ourToks)) ⊢ (|==> bigSep Finset.univ (deal m) : sProp 𝕄) := by
  have hX (Φ : GSem nD τ sig → sProp 𝕄) : bigSep ourCells Φ = bigSep Finset.univ fun c : Dev nD => bigSep Finset.univ fun k : CX => Φ (kcell (c, k)) := by
    unfold ourCells; rw [bigSep_map, bigSep_univ_prod]; rfl
  have hT : bigSep ourToks (fun x => (dutyTok ER x.1 x.2.1 x.2.2 : sProp 𝕄)) = bigSep Finset.univ fun c : Dev nD => payToks c := by
    unfold ourToks; rw [bigSep_map, bigSep_univ_prod]
    exact bigSep_congr fun c _ => by rw [bigSep_univ_prod]; rfl
  iintro HX
  imod (Rounds.fund ER (sched m) ourCells ourToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold deal; simp only [bigSep_sep']
  isplitl [Hst]; · iexact Hst
  isplitl [Hat]; · iexact Hat
  isplitl [Hr]; · iexact Hr
  iexact Htok

theorem unscopedSems0_eq : (unscopedSems0 c : sProp 𝕄) = semVal (barCell c) 0 := by
  unfold unscopedSems0; rw [bigSep_eq_bigSepL_of_eq [SemLoc.reg barS] (by decide) (by decide)]; rfl

theorem ownSems0_eq : (Pipeline.ownSems0 (Ix := Unit) (Name := ℕ) (U := UU) (Lvl := ℕ) (Val := Elt F) (τ := τ) osem c : sProp 𝕄)
    = byUse c fun g => semVal g 0 := by
  unfold Pipeline.ownSems0; exact kx_split c fun g => semVal g 0

theorem sems_all : iprop(Pipeline.ownSems0 (Ix := Unit) (Name := ℕ) (U := UU) (Lvl := ℕ) (Val := Elt F) (τ := τ) osem c ∗ unscopedSems0 c)
    ⊢ (bigSep Finset.univ fun k : CX => semVal (kcell (c, k)) 0 : sProp 𝕄) := by
  rw [ownSems0_eq, unscopedSems0_eq, cx_split c (fun g => semVal g 0)]
  iintro ⟨HS, HB⟩
  isplitl [HB] <;> iassumption

theorem alloc_at :
    iprop(Pipeline.ownSems0 (Ix := Unit) (Name := ℕ) (U := UU) (Lvl := ℕ) (Val := Elt F) (τ := τ) osem c ∗ unscopedSems0 c ∗ deal m c)
      ⊢ |={Set.univ}=> iprop((bigSep Finset.univ fun k : CX => iprop(∃ κ : ℕ, cellInv ER (sched m) κ (kcell (c, k))))
          ∗ (bigSep Finset.univ fun k : CX => reached ER (kcell (c, k)) 0) ∗ linear c) := by
  unfold deal linear
  iintro ⟨Hos, Hus, Hst, Hat, Hr, Htok⟩
  ihave Hv := (sems_all (F := F) c) $$ [Hos Hus]
  · isplitl [Hos] <;> iassumption
  imod (show iprop((bigSep Finset.univ fun k : CX => semVal (kcell (c, k)) 0) ∗ bigSep Finset.univ fun k : CX => roundState ER (sched m) (kcell (c, k)) 0)
      ⊢ (|={Set.univ}=> bigSep Finset.univ fun k : CX => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem dealt_intro (K : Dev nD × CX → ℕ) : iprop(records m K ∗ linear c) ⊢ dealt m c := by
  unfold dealt
  iintro H
  iexists K
  iexact H

theorem regroup :
    (bigSep Finset.univ fun c : Dev nD => iprop((bigSep Finset.univ fun k : CX => iprop(∃ κ : ℕ, cellInv ER (sched m) κ (kcell (c, k))))
          ∗ (bigSep Finset.univ fun k : CX => reached ER (kcell (c, k)) 0) ∗ linear c) : sProp 𝕄)
      ⊢ bigSep Finset.univ (dealt m) := by
  rw [bigSep_sep', bigSep_sep', ← bigSep_univ_prod (fun ck : Dev nD × CX => iprop(∃ κ : ℕ, cellInv ER (sched m) κ (kcell ck))),
    ← bigSep_univ_prod (fun ck : Dev nD × CX => (reached ER (kcell ck) 0 : sProp 𝕄))]
  iintro ⟨HI, #HR, Hl⟩
  ihave HK := (BI.bigSep_exists_pi Finset.univ (fun (ck : Dev nD × CX) (κ : ℕ) => (cellInv ER (sched m) κ (kcell ck) : sProp 𝕄))) $$ HI
  icases HK with ⟨%K, #HI⟩
  iapply (bigSep_with (R := records m K) fun c _ => dealt_intro m c K)
  isplitr
  · unfold records; isplitl; · iexact HI
    iexact HR
  iexact Hl

theorem glob : (bigSep Finset.univ fun c => iprop(Pipeline.ownSems0 (Ix := Unit) (Name := ℕ) (U := UU) (Lvl := ℕ) (Val := Elt F) (τ := τ) osem c ∗ unscopedSems0 c ∗ deal m c) : sProp 𝕄)
    ⊢ |={Set.univ}=> bigSep Finset.univ (dealt m) :=
  ((bigSep_mono fun c _ => alloc_at m c).trans (bigSep_fupd _ _)).trans (BI.fupd_mono (regroup m))

/-! ## The side conditions of the run -/

theorem start_intro :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  unfold start dealt records env
  iintro ⟨-, #Hlev, Hcr, -, ⟨%K, ⟨#HI, #HR⟩, Hl⟩⟩
  ihave Hc := (creds_intro (F := F) c) $$ Hcr
  imodintro
  isplitl
  · isplitl [Hl]
    · iexists K
      isplitr [Hl]
      · isplitr; · iexact HI
        isplitr; · iexact HR
        iexact Hlev
      iexact Hl
    iexact Hc
  · iempintro

theorem phi_first :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi_last :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scr
  iintro ⟨Hr, HB, HS⟩
  isplitl [HB]; · iexact HB
  isplitl [HS] <;> iassumption

theorem stage_wait (q : DmaSem sig) (hq : lvS (.dma q) ≤ 0) (O : CellTallies nD τ sig Unit) (hO : O = O₀ c ∨ O = 0) :
    (levAts L lv : sProp 𝕄) ⊢ MayWait (c : Thread nD τ) (.dma q) () O := by
  rcases hO with rfl | rfl
  · exact mayWait c _ hq (above_dues c)
  · exact (show (levAts L lv : sProp 𝕄) ⊢ MayWait (c : Thread nD τ) (.dma q) () (tal []) from mayWait (l := []) c (.dma q) hq (above_nil 0))

theorem waits : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution on the four devices terminates, with the result arrays at
    `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := deal m) (G' := dealt m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.K
-- ==== Proof.Blocks.lean ====
/-
# What one block computes

`row W U x` is one row of a two-layer perceptron block with rectifier, over a hidden dimension of any size `H`; the
kernel's payloads at an index are rows of it over the 512 hidden units a device holds, and the sums the kernel takes over
the four devices' blocks are plain sums over the devices, the order of the summands being immaterial over the extended
reals. A row over 2048 hidden units is the sum of the four rows over 512.
-/
module

public import proofs.«01_k».proof.Proof.Contents
public import Idealize.ShloMosaic.Lib.Pointwise
public import Idealize.ShloMosaic.Lib.Pipeline.ValueKit.Acc

@[expose] public section

set_option maxRecDepth 16384

noncomputable section

namespace Cert.K

open Cert.KernelIdeal Cert.KernelIdeal.Gen
open Idealize.ShloMosaic
open Idealize.ShloMosaic.TcCoe

/-- Entry `l` of one row `x` through a block: `relu (x W) U`. -/
def row {H : Nat} (W : Fin 256 → Fin H → EReal) (U : Fin H → Fin 256 → EReal) (x : Fin 256 → EReal) (l : Fin 256) : EReal :=
  ∑ h : Fin H, max (∑ k : Fin 256, x k * W k h) 0 * U h l

/-- A row over all hidden units is the sum of the four devices' rows. -/
theorem row_split (W : Fin 256 → Fin 2048 → EReal) (U : Fin 2048 → Fin 256 → EReal)
    (Ws : Fin 4 → Fin 256 → Fin 512 → EReal) (Us : Fin 4 → Fin 512 → Fin 256 → EReal)
    (hW : ∀ s k h hl, Ws s k h = W k ⟨s.val * 512 + h.val, hl⟩)
    (hU : ∀ s h l hl, Us s h l = U ⟨s.val * 512 + h.val, hl⟩ l) (x : Fin 256 → EReal) (l : Fin 256) :
    ∑ s : Fin 4, row (Ws s) (Us s) x l = row W U x l := by
  unfold row
  refine Fin.sum_mul_add_congr (S := 4) (n := 512) (L := 2048)
    (f := fun h => max (∑ k : Fin 256, x k * W k h) 0 * U h l) ?_
  intro s h hl
  simp only [hW s _ h hl, hU s h l hl]

/-- The four devices in the order device `c` adds them. -/
theorem sum_order (f : Fin 4 → EReal) (c : Dev nD) :
    f c + f (peer c 0) + f (peer c 2) + f (peer c 1) = ∑ s : Fin 4, f s := by
  rw [Fin.sum_univ_four]
  fin_cases c
  · show f 0 + f 1 + f 3 + f 2 = _; ac_rfl
  · show f 1 + f 2 + f 0 + f 3 = _; ac_rfl
  · show f 2 + f 3 + f 1 + f 0 = _; ac_rfl
  · show f 3 + f 0 + f 2 + f 1 = _; ac_rfl

/-- The first layer's block. -/
theorem pay1_apply (x : Vec Ideal S128x256 .f32) (W : Vec Ideal S256x512 .f32) (U : Vec Ideal S512x256 .f32)
    (r : Fin 128) (l : Fin 256) :
    k0_pay1 x W U (ix4 (0 : Fin 1) (0 : Fin 1) r l)
      = row (fun k h => W (ix2 k h)) (fun h l => U (ix2 h l)) (fun k => x (ix2 r k)) l := by
  unfold row
  pointwise! [k0_pay1]

/-- Three of the four summands of a layer's input. -/
theorem acc3_apply (B : Dev nD → Fin 4 → FVec Ideal S1x1x128x256 .bf16) (c : Dev nD) (j : Fin 4) (r : Fin 128) (l : Fin 256) :
    acc3 B c j (ix2 r l) = B c j (ix4 (0 : Fin 1) (0 : Fin 1) r l) + B (peer c 0) j (ix4 (0 : Fin 1) (0 : Fin 1) r l)
      + B (peer c 2) j (ix4 (0 : Fin 1) (0 : Fin 1) r l) := by
  unfold acc3
  pointwise! [k0_pay6, k0_pay7, k0_pay8]

/-- A later layer's block, of the accumulated input and the last summand. -/
theorem pay9_apply (a : FVec Ideal S128x256 .f32) (b : FVec Ideal S1x1x128x256 .bf16) (W : Vec Ideal S256x512 .f32)
    (U : Vec Ideal S512x256 .f32) (r : Fin 128) (l : Fin 256) :
    k0_pay9 a b W U (ix4 (0 : Fin 1) (0 : Fin 1) r l)
      = row (fun k h => W (ix2 k h)) (fun h l => U (ix2 h l))
          (fun k => a (ix2 r k) + b (ix4 (0 : Fin 1) (0 : Fin 1) r k)) l := by
  unfold row
  pointwise! [k0_pay9]

theorem pay25_apply (a : FVec Ideal S128x256 .f32) (b : FVec Ideal S1x1x128x256 .bf16) (W : Vec Ideal S256x512 .f32)
    (U : Vec Ideal S512x256 .f32) (r : Fin 128) (l : Fin 256) :
    k0_pay25 a b W U (ix3 (0 : Fin 1) r l)
      = row (fun k h => W (ix2 k h)) (fun h l => U (ix2 h l))
          (fun k => a (ix2 r k) + b (ix4 (0 : Fin 1) (0 : Fin 1) r k)) l := by
  unfold row
  pointwise! [k0_pay25]

/-- The result's sum of four blocks. -/
theorem pay40_apply (p q s t : FVec Ideal S1x128x256 .bf16) (r : Fin 128) (l : Fin 256) :
    (k0_pay40 (F := Ideal) (k0_pay39 (k0_pay38 p) q) s t (ix2 r l) : EReal)
      = p (ix3 (0 : Fin 1) r l) + q (ix3 (0 : Fin 1) r l) + s (ix3 (0 : Fin 1) r l) + t (ix3 (0 : Fin 1) r l) := by
  pointwise! [k0_pay38, k0_pay39, k0_pay40]

end Cert.K
-- ==== Proof.RefValue.lean ====
/-
# What the reference computes

Each of the reference's three layers, at an index, is one row through a block of 2048 hidden units; its result is three
of them in a row.
-/
module

public import proofs.«01_k».proof.Proof.Blocks
public import proofs.«01_k».proof.Proof.Gen.ReferenceIdeal.Run

@[expose] public section

set_option maxRecDepth 16384

noncomputable section

namespace Cert.K.Ref

open Cert.ReferenceIdeal Cert.ReferenceIdeal.Gen
open Idealize.ShloMosaic
open Idealize.ShloMosaic.TcCoe

/-- One layer of the reference. -/
def layer (x : FVec Ideal S512x256 .f32) (W : FVec Ideal S256x2048 .f32) (U : FVec Ideal S2048x256 .f32) : FVec Ideal S512x256 .f32 :=
  Host.dotGeneral dot_S512x2048_S2048x256_S512x256_1_0_0_1_n_n none
    (maximumf (Host.dotGeneral dot_S512x256_S256x2048_S512x2048_1_0_0_1_n_n none x W)
      (broadcastInDim S512x2048 ![] bcast_S_S512x2048 (constant S_ .f32 0x00000000#32))) U

/-- The reference's result. -/
def out (x : FVec Ideal S512x256 .f32) (W0 : FVec Ideal S256x2048 .f32) (W1 : FVec Ideal S256x2048 .f32) (W2 : FVec Ideal S256x2048 .f32)
    (U0 : FVec Ideal S2048x256 .f32) (U1 : FVec Ideal S2048x256 .f32) (U2 : FVec Ideal S2048x256 .f32) : FVec Ideal S512x256 .f32 :=
  layer (layer (layer x W0 U0) W1 U1) W2 U2

/-- A row through all the hidden units of a layer's arrays. -/
def full (W : FVec Ideal S256x2048 .f32) (U : FVec Ideal S2048x256 .f32) (x : Fin 256 → EReal) (l : Fin 256) : EReal :=
  row (fun k h => W (ix2 k h)) (fun h l => U (ix2 h l)) x l

theorem layer_apply (x : FVec Ideal S512x256 .f32) (W : FVec Ideal S256x2048 .f32) (U : FVec Ideal S2048x256 .f32)
    (r : Fin 512) (l : Fin 256) : layer x W U (ix2 r l) = full W U (fun k => x (ix2 r k)) l := by
  unfold full row
  pointwise! [layer]

theorem out_apply (x : FVec Ideal S512x256 .f32) (W0 : FVec Ideal S256x2048 .f32) (W1 : FVec Ideal S256x2048 .f32) (W2 : FVec Ideal S256x2048 .f32)
    (U0 : FVec Ideal S2048x256 .f32) (U1 : FVec Ideal S2048x256 .f32) (U2 : FVec Ideal S2048x256 .f32) (r : Fin 512) (l : Fin 256) :
    out x W0 W1 W2 U0 U1 U2 (ix2 r l) = full W2 U2 (full W1 U1 (full W0 U0 fun k => x (ix2 r k))) l := by
  unfold out
  simp only [layer_apply]

end Cert.K.Ref
-- ==== Proof.Equation.lean ====
/-
# The kernel's result is the reference's

From a launch memory in which every device holds the whole `x`, its columns of the three first weights and its rows of the
three second ones, what device `c` computes for its result is block `c` of the rows of the reference's result.
-/
module

public import proofs.«01_k».proof.Proof.Blocks
public import proofs.«01_k».proof.Proof.RefValue
public import proofs.«01_k».proof.Proof.Launch
public import Idealize.ShloMosaic.Lib.Layout

@[expose] public section

set_option maxRecDepth 16384

noncomputable section

namespace Cert.K

open Cert.KernelIdeal Cert.KernelIdeal.Gen
open Idealize.ShloMosaic
open Idealize.ShloMosaic.TcCoe
open Idealize.SL.Sem

/-- The launch memory holds the parts of the whole arrays. -/
structure Parts (m : (ℓ : Loc nD τ sig) → Buf (Elt Ideal) ℓ) (x : FVec Ideal S512x256 .f32)
    (A : Fin 3 → FVec Ideal Cert.ReferenceIdeal.S256x2048 .f32) (B : Fin 3 → FVec Ideal Cert.ReferenceIdeal.S2048x256 .f32) : Prop where
  x : ∀ c : Dev nD, m ((c : Thread nD τ).loc main_arg0) = x
  a0 : ∀ c : Dev nD, m ((c : Thread nD τ).loc main_arg1) = Layout.block ⟨2, ![256, 512]⟩ ⟨2, ![256, 2048]⟩ 1 4 c (A 0)
  a1 : ∀ c : Dev nD, m ((c : Thread nD τ).loc main_arg2) = Layout.block ⟨2, ![256, 512]⟩ ⟨2, ![256, 2048]⟩ 1 4 c (A 1)
  a2 : ∀ c : Dev nD, m ((c : Thread nD τ).loc main_arg3) = Layout.block ⟨2, ![256, 512]⟩ ⟨2, ![256, 2048]⟩ 1 4 c (A 2)
  b0 : ∀ c : Dev nD, m ((c : Thread nD τ).loc main_arg4) = Layout.block ⟨2, ![512, 256]⟩ ⟨2, ![2048, 256]⟩ 0 4 c (B 0)
  b1 : ∀ c : Dev nD, m ((c : Thread nD τ).loc main_arg5) = Layout.block ⟨2, ![512, 256]⟩ ⟨2, ![2048, 256]⟩ 0 4 c (B 1)
  b2 : ∀ c : Dev nD, m ((c : Thread nD τ).loc main_arg6) = Layout.block ⟨2, ![512, 256]⟩ ⟨2, ![2048, 256]⟩ 0 4 c (B 2)

/-- Device `s`'s columns of a first weight, rows of a second one, and row `r` of chunk `j` of `x`. -/
def cols (A : FVec Ideal Cert.ReferenceIdeal.S256x2048 .f32) (s : Fin 4) (k : Fin 256) (h : Fin 512) : EReal :=
  A (ix2 k (⟨s.val * 512 + h.val, by omega⟩ : Fin 2048))
def rows (B : FVec Ideal Cert.ReferenceIdeal.S2048x256 .f32) (s : Fin 4) (h : Fin 512) (l : Fin 256) : EReal :=
  B (ix2 (⟨s.val * 512 + h.val, by omega⟩ : Fin 2048) l)
def xrow (x : FVec Ideal S512x256 .f32) (j : Fin 4) (r : Fin 128) (k : Fin 256) : EReal :=
  x (ix2 (⟨j.val * 128 + r.val, by omega⟩ : Fin 512) k)

theorem block_cols (A : FVec Ideal Cert.ReferenceIdeal.S256x2048 .f32) (s : Fin 4) (k : Fin 256) (h : Fin 512) (ht) :
    Layout.block ⟨2, ![256, 512]⟩ ⟨2, ![256, 2048]⟩ 1 4 s A ht (ix2 k h) = cols A s k h := by
  rw [Layout.block_apply]
  unfold cols
  congr 1
  funext a
  fin_cases a <;> rfl
theorem block_rows (B : FVec Ideal Cert.ReferenceIdeal.S2048x256 .f32) (s : Fin 4) (h : Fin 512) (l : Fin 256) (ht) :
    Layout.block ⟨2, ![512, 256]⟩ ⟨2, ![2048, 256]⟩ 0 4 s B ht (ix2 h l) = rows B s h l := by
  rw [Layout.block_apply]
  unfold rows
  congr 1
  funext a
  fin_cases a <;> rfl
theorem block_out (y : FVec Ideal S512x256 .f32) (s : Fin 4) (r : Fin 128) (l : Fin 256) (ht) :
    Layout.block ⟨2, ![128, 256]⟩ ⟨2, ![512, 256]⟩ 0 4 s y ht (ix2 r l) = y (ix2 (⟨s.val * 128 + r.val, by omega⟩ : Fin 512) l) := by
  rw [Layout.block_apply]
  congr 1
  funext a
  fin_cases a <;> rfl

/-! ## The windows read whole arrays -/

section Windows

variable {F : FTy → Type} [FloatOps F] (m : (ℓ : Loc nD τ sig) → Buf (Elt F) ℓ) (c : Dev nD)

theorem X_eq : X m c = m ((c : Thread nD τ).loc main_arg0) :=
  Memref.read_access_unit_zero (Elt F) main_arg0 (funext fun a => by fin_cases a <;> decide) (fun a => by fin_cases a <;> decide) _
theorem W0_eq : W0 m c = m ((c : Thread nD τ).loc main_arg1) :=
  Memref.read_access_unit_zero (Elt F) main_arg1 (funext fun a => by fin_cases a <;> decide) (fun a => by fin_cases a <;> decide) _
theorem W1_eq : W1 m c = m ((c : Thread nD τ).loc main_arg2) :=
  Memref.read_access_unit_zero (Elt F) main_arg2 (funext fun a => by fin_cases a <;> decide) (fun a => by fin_cases a <;> decide) _
theorem W2_eq : W2 m c = m ((c : Thread nD τ).loc main_arg3) :=
  Memref.read_access_unit_zero (Elt F) main_arg3 (funext fun a => by fin_cases a <;> decide) (fun a => by fin_cases a <;> decide) _
theorem U0_eq : U0 m c = m ((c : Thread nD τ).loc main_arg4) :=
  Memref.read_access_unit_zero (Elt F) main_arg4 (funext fun a => by fin_cases a <;> decide) (fun a => by fin_cases a <;> decide) _
theorem U1_eq : U1 m c = m ((c : Thread nD τ).loc main_arg5) :=
  Memref.read_access_unit_zero (Elt F) main_arg5 (funext fun a => by fin_cases a <;> decide) (fun a => by fin_cases a <;> decide) _
theorem U2_eq : U2 m c = m ((c : Thread nD τ).loc main_arg6) :=
  Memref.read_access_unit_zero (Elt F) main_arg6 (funext fun a => by fin_cases a <;> decide) (fun a => by fin_cases a <;> decide) _

/-- The result array ends with the body's result. -/
theorem final_out (ρ : Dev nD → PrngReg) : finalA m ρ c (7 : Fin 8) = Out m c := by
  have hr : (win0_7.blk (0 : Fin 1)).view.read (Elt F) (finalA m ρ c (7 : Fin 8)) = Out m c := by
    unfold finalA
    rw [show cfg0.N = ((0 : Fin 1) : Fin cfg0.N).val + 1 from rfl, (dats m ρ 0 c).arrAt_succ (7 : Fin 8) (0 : Fin 1)]
    rw [show (cfg0.win (7 : Fin 8)).flush (0 : Fin 1) = true from by decide, if_pos rfl]
    exact View.read_write_univ _ _
  exact (Memref.read_access_unit_zero (Elt F) main_v1 (funext fun a => by fin_cases a <;> decide)
    (fun a => by fin_cases a <;> decide) _).symm.trans hr

/-- Chunk `j` of `x` at an index. -/
theorem Xc_apply (j : Fin 4) (r : Fin 128) (k : Fin 256) :
    Xc m c j (ix2 r k) = m ((c : Thread nD τ).loc main_arg0) (ix2 (⟨j.val * 128 + r.val, by omega⟩ : Fin 512) k) := by
  rw [← X_eq m c]
  show X m c ((xR j).emb (ix2 r k)) = _
  congr 1
  funext a
  fin_cases a
  · exact Fin.ext (by rw [Rect.emb_apply]; show 128 * j.val + 1 * r.val = j.val * 128 + r.val; omega)
  · exact Fin.ext (by rw [Rect.emb_apply]; show 0 + 1 * k.val = k.val; omega)

end Windows

/-! ## Layer by layer -/

/-- A layer's sum over the devices. -/
theorem layer_sum (P : Dev nD → Fin 4 → FVec Ideal S1x1x128x256 .bf16) (A : FVec Ideal Cert.ReferenceIdeal.S256x2048 .f32)
    (B : FVec Ideal Cert.ReferenceIdeal.S2048x256 .f32) (y : Fin 256 → EReal) (c : Dev nD) (j : Fin 4) (r : Fin 128) (l : Fin 256)
    (hP : ∀ s : Dev nD, P s j (ix4 (0 : Fin 1) (0 : Fin 1) r l) = row (cols A s) (rows B s) y l) :
    acc3 P c j (ix2 r l) + P (peer c 1) j (ix4 (0 : Fin 1) (0 : Fin 1) r l) = Ref.full A B y l := by
  rw [acc3_apply]
  refine (sum_order (fun s => P s j (ix4 (0 : Fin 1) (0 : Fin 1) r l)) c).trans ?_
  refine (Finset.sum_congr rfl fun s _ => hP s).trans ?_
  exact row_split _ _ (cols A) (rows B) (fun _ _ _ _ => rfl) (fun _ _ _ _ => rfl) y l

section Layers

variable {m : (ℓ : Loc nD τ sig) → Buf (Elt Ideal) ℓ} {x : FVec Ideal S512x256 .f32}
  {A : Fin 3 → FVec Ideal Cert.ReferenceIdeal.S256x2048 .f32} {B : Fin 3 → FVec Ideal Cert.ReferenceIdeal.S2048x256 .f32}
  (h : Parts m x A B)
include h

theorem B0_apply (c : Dev nD) (j : Fin 4) (r : Fin 128) (l : Fin 256) :
    B0 m c j (ix4 (0 : Fin 1) (0 : Fin 1) r l) = row (cols (A 0) c) (rows (B 0) c) (xrow x j r) l := by
  unfold B0
  rw [pay1_apply, W0_eq, U0_eq, h.a0, h.b0]
  simp only [Xc_apply, h.x, block_cols, block_rows]
  rfl

theorem B1_apply (c : Dev nD) (j : Fin 4) (r : Fin 128) (l : Fin 256) :
    B1 m c j (ix4 (0 : Fin 1) (0 : Fin 1) r l)
      = row (cols (A 1) c) (rows (B 1) c) (Ref.full (A 0) (B 0) (xrow x j r)) l := by
  unfold B1
  rw [pay9_apply, W1_eq, U1_eq, h.a1, h.b1]
  simp only [block_cols, block_rows, fun k => layer_sum (B0 m) (A 0) (B 0) (xrow x j r) c j r k fun s => B0_apply h s j r k]

theorem Part_apply (c : Dev nD) (j : Fin 4) (r : Fin 128) (l : Fin 256) :
    Part m c j (ix3 (0 : Fin 1) r l)
      = row (cols (A 2) c) (rows (B 2) c) (Ref.full (A 1) (B 1) (Ref.full (A 0) (B 0) (xrow x j r))) l := by
  unfold Part
  rw [pay25_apply, W2_eq, U2_eq, h.a2, h.b2]
  simp only [block_cols, block_rows,
    fun k => layer_sum (B1 m) (A 1) (B 1) (Ref.full (A 0) (B 0) (xrow x j r)) c j r k fun s => B1_apply h s j r k]

/-- Device `c`'s result is block `c` of the reference's. -/
theorem Out_eq (c : Dev nD) (ht) : Out m c
    = Layout.block ⟨2, ![128, 256]⟩ ⟨2, ![512, 256]⟩ 0 4 c (Ref.out x (A 0) (A 1) (A 2) (B 0) (B 1) (B 2)) ht := by
  funext i
  obtain ⟨r, l, rfl⟩ : ∃ (r : Fin 128) (l : Fin 256), i = ix2 r l := ⟨i 0, i 1, ValueIdx.eq_ix2 i⟩
  rw [block_out, Ref.out_apply]
  unfold Out
  rw [pay40_apply]
  refine (sum_order (fun s => Part m s c (ix3 (0 : Fin 1) r l)) c).trans ?_
  refine (Finset.sum_congr rfl fun s _ => Part_apply h s c r l).trans ?_
  exact row_split _ _ (cols (A 2)) (rows (B 2)) (fun _ _ _ _ => rfl) (fun _ _ _ _ => rfl) _ l

end Layers

end Cert.K
-- ==== Proof.Same.lean ====
/-
# The two texts of the kernel

The kernel printed for the machine's floats and the kernel printed for the extended reals are the same text, so a run of
the one over any floats is a run of the other.
-/
module

public import proofs.«01_k».proof.Proof.Gen.Kernel
public import proofs.«01_k».proof.Proof.Gen.KernelIdeal

@[expose] public section

set_option maxRecDepth 20000

namespace Cert.K

open Idealize.ShloMosaic

variable {F : FTy → Type} [FloatOps F]

theorem body_same : @Cert.Kernel.cc0_body F _ _ = @Cert.KernelIdeal.cc0_body F _ _ := rfl

theorem defs₀_same : Cert.Kernel.defs₀ (F := F) = Cert.KernelIdeal.defs₀ (F := F) := by
  unfold Cert.Kernel.defs₀ Cert.KernelIdeal.defs₀
  refine congrArg Defs.onTc ?_
  funext l a
  match l with
  | ⟨0, _⟩ =>
    obtain ⟨t, s⟩ := a
    dsimp only
    rw [body_same]
  | ⟨_ + 1, h⟩ => exact absurd h (Nat.not_lt.2 (Nat.le_add_left _ _))

theorem defs_same : Cert.Kernel.defs (F := F) = Cert.KernelIdeal.defs (F := F) :=
  congrArg (Pipeline.defs Cert.KernelIdeal.pcfgs) defs₀_same

end Cert.K
-- ==== Proof.lean ====
/-
# The five claims

Every run of the kernel ends, its arguments unchanged and every counter at zero, over the machine's floats and over the
extended reals (`frame_kernel`, `frame_kernelIdeal`, both from the one run of `Proof/Launch.lean`); so does the reference
(`frame_reference`); and over the extended reals device `c`'s result is block `c` of the rows of the reference's result
(`algebraic`, from `Proof/Equation.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Equation
public import proofs.«01_k».proof.Proof.Same
public import Idealize.ShloMosaic.Lib.Quiescent

@[expose] public section

noncomputable section

namespace Cert.Proof

open Idealize.ShloMosaic Idealize.ShloMosaic.TcCoe Idealize.SL.Sem Cert.KernelIdeal Cert.K

section

variable {F : FTy → Type} [FloatOps F] (m : (ℓ : Loc nD τ sig) → Buf (Elt F) ℓ) (ρ : Dev nD → PrngReg)

/-- An argument's array ends with what it held. -/
theorem args (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c (0 : Fin 8)).trans ((dats m ρ 0 c).arrAt_in (0 : Fin 8) rfl _),
    (h c (1 : Fin 8)).trans ((dats m ρ 0 c).arrAt_in (1 : Fin 8) rfl _),
    (h c (3 : Fin 8)).trans ((dats m ρ 0 c).arrAt_in (3 : Fin 8) rfl _),
    (h c (5 : Fin 8)).trans ((dats m ρ 0 c).arrAt_in (5 : Fin 8) rfl _),
    (h c (2 : Fin 8)).trans ((dats m ρ 0 c).arrAt_in (2 : Fin 8) rfl _),
    (h c (4 : Fin 8)).trans ((dats m ρ 0 c).arrAt_in (4 : Fin 8) rfl _),
    (h c (6 : Fin 8)).trans ((dats m ρ 0 c).arrAt_in (6 : Fin 8) rfl _)⟩

/-- Every run ends with the arguments unchanged and every counter at zero. -/
theorem frame_any : θ_run (Cert.KernelIdeal.defs (F := F)) (onTc (τ := τ) (Cert.KernelIdeal.main (F := F))) ⟨m, fun _ => 0, ρ⟩ fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0 :=
  (θ_run Cert.KernelIdeal.defs _ _).mono (fun r h => ⟨args m ρ r h.1, h.2⟩) (run_main m ρ)

end

theorem frame_kernel : Cert.quiescent_Kernel := fun m ρ _ => by
  have h := frame_any (F := Bits) m ρ
  rw [← defs_same] at h
  exact h

theorem frame_kernelIdeal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem algebraic : Cert.algebraic_KernelIdeal_ReferenceIdeal := fun m ρ m' ρ' _ hagree => by
  have hp : Parts m (m' (((0 : Dev Cert.ReferenceIdeal.nD).tc : Thread Cert.ReferenceIdeal.nD Cert.ReferenceIdeal.τ).loc Cert.ReferenceIdeal.main_arg0))
      ![m' (((0 : Dev Cert.ReferenceIdeal.nD).tc : Thread Cert.ReferenceIdeal.nD Cert.ReferenceIdeal.τ).loc Cert.ReferenceIdeal.main_arg1),
        m' (((0 : Dev Cert.ReferenceIdeal.nD).tc : Thread Cert.ReferenceIdeal.nD Cert.ReferenceIdeal.τ).loc Cert.ReferenceIdeal.main_arg2),
        m' (((0 : Dev Cert.ReferenceIdeal.nD).tc : Thread Cert.ReferenceIdeal.nD Cert.ReferenceIdeal.τ).loc Cert.ReferenceIdeal.main_arg3)]
      ![m' (((0 : Dev Cert.ReferenceIdeal.nD).tc : Thread Cert.ReferenceIdeal.nD Cert.ReferenceIdeal.τ).loc Cert.ReferenceIdeal.main_arg4),
        m' (((0 : Dev Cert.ReferenceIdeal.nD).tc : Thread Cert.ReferenceIdeal.nD Cert.ReferenceIdeal.τ).loc Cert.ReferenceIdeal.main_arg5),
        m' (((0 : Dev Cert.ReferenceIdeal.nD).tc : Thread Cert.ReferenceIdeal.nD Cert.ReferenceIdeal.τ).loc Cert.ReferenceIdeal.main_arg6)] :=
    { x := fun c => (hagree c).1
      a0 := fun c => (hagree c).2.1
      a1 := fun c => (hagree c).2.2.1
      a2 := fun c => (hagree c).2.2.2.1
      b0 := fun c => (hagree c).2.2.2.2.1
      b1 := fun c => (hagree c).2.2.2.2.2.1
      b2 := fun c => (hagree c).2.2.2.2.2.2 }
  exact ⟨Ref.out _ _ _ _ _ _ _,
    (θ_run Cert.KernelIdeal.defs _ _).mono
      (fun r h c => ⟨((h.1 c (7 : Fin 8)).trans (final_out m c ρ)).trans (Out_eq hp c _), args (F := Ideal) m ρ r h.1 c⟩)
      (run_main (F := Ideal) m ρ),
    (θ_run Cert.ReferenceIdeal.defs _ _).mono (fun r h => h 0) (Cert.ReferenceIdeal.Value.run m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
